-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S4096x512 : Shape := ⟨2, ![4096, 512]⟩
abbrev S4 : Shape := ⟨1, ![4]⟩
abbrev S2 : Shape := ⟨1, ![2]⟩
abbrev S_ : Shape := ⟨0, ![]⟩
abbrev S512x512 : Shape := ⟨2, ![512, 512]⟩
abbrev S1 : Shape := ⟨1, ![1]⟩
abbrev S128x512 : Shape := ⟨2, ![128, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .bf16⟩
  | .hbm, ⟨1, _⟩ => ⟨S4096x512, .bf16⟩
  | .local _ .vmem, ⟨0, _⟩ => ⟨S2048x512, .bf16⟩
  | .local _ .vmem, ⟨1, _⟩ => ⟨S4096x512, .bf16⟩
  | _, _ => ⟨S2048x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v29 : BitVec 32 := Scalar.muli v2 c4_i32_18
  let v30 : BitVec 32 := Scalar.addi c0_i32 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v31 : BitVec 32 := Scalar.muli v5 c2_i32_19
  let v32 : BitVec 32 := Scalar.addi v30 v31
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_20 : BitVec 32 := 1#32
  let v33 : BitVec 32 := Scalar.muli v9 c1_i32_20
  let v34 : BitVec 32 := Scalar.addi v32 v33
  v34.toNat
def k0_dev2 (d0 : Dev nD) : Nat :=
  let c0_i32_23 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_22 : BitVec 32 := 4#32
  let v35 : BitVec 32 := Scalar.muli v10 c4_i32_22
  let v36 : BitVec 32 := Scalar.addi c0_i32_23 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v37 : BitVec 32 := Scalar.muli v5 c2_i32_24
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v39 : BitVec 32 := Scalar.muli v8 c1_i32_25
  let v40 : BitVec 32 := Scalar.addi v38 v39
  v40.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v41 : BitVec 32 := Scalar.muli v2 c4_i32_27
  let v42 : BitVec 32 := Scalar.addi c0_i32_28 v41
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_29 : BitVec 32 := 2#32
  let v43 : BitVec 32 := Scalar.muli v11 c2_i32_29
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v45 : BitVec 32 := Scalar.muli v8 c1_i32_30
  let v46 : BitVec 32 := Scalar.addi v44 v45
  v46.toNat
def k0_off1 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32 : BitVec 32 := 512#32
  let v14 : BitVec 32 := Scalar.muli v13 c512_i32
  let v50 : Index := Scalar.indexCast v14
  let c0 : Index := 0#32
  ![v50.toNat, 0]
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v47 : BitVec 32 := Scalar.muli v8 c2048_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32 : BitVec 32 := 512#32
  let v14 : BitVec 32 := Scalar.muli v13 c512_i32
  let v53 : BitVec 32 := Scalar.addi v47 v14
  let v54 : Index := Scalar.indexCast v53
  let c0_33 : Index := 0#32
  ![v54.toNat, 0]
def k0_off3 (d0 : Dev nD) (c0_i32_34 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v47 : BitVec 32 := Scalar.muli v8 c2048_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32 : BitVec 32 := 512#32
  let v14 : BitVec 32 := Scalar.muli v13 c512_i32
  let v56 : BitVec 32 := Scalar.addi v47 v14
  let v57 : BitVec 32 := Scalar.addi v56 c0_i32_34
  let c0_i32_41 : BitVec 32 := 0#32
  ![v57.toNat, 0]
def k0_dev4 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v58 : BitVec 32 := Scalar.muli v2 c4_i32_37
  let v59 : BitVec 32 := Scalar.addi c0_i32_38 v58
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v60 : BitVec 32 := Scalar.muli v5 c2_i32_39
  let v61 : BitVec 32 := Scalar.addi v59 v60
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_40 : BitVec 32 := 1#32
  let v62 : BitVec 32 := Scalar.muli v9 c1_i32_40
  let v63 : BitVec 32 := Scalar.addi v61 v62
  v63.toNat
def k0_dev5 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_45 : BitVec 32 := 4#32
  let v72 : BitVec 32 := Scalar.muli v2 c4_i32_45
  let v73 : BitVec 32 := Scalar.addi c0_i32_46 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v74 : BitVec 32 := Scalar.muli v5 c2_i32_47
  let v75 : BitVec 32 := Scalar.addi v73 v74
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_48 : BitVec 32 := 1#32
  let v76 : BitVec 32 := Scalar.muli v9 c1_i32_48
  let v77 : BitVec 32 := Scalar.addi v75 v76
  v77.toNat
def k0_dev6 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_53 : BitVec 32 := 4#32
  let v86 : BitVec 32 := Scalar.muli v2 c4_i32_53
  let v87 : BitVec 32 := Scalar.addi c0_i32_54 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_55 : BitVec 32 := 2#32
  let v88 : BitVec 32 := Scalar.muli v5 c2_i32_55
  let v89 : BitVec 32 := Scalar.addi v87 v88
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_56 : BitVec 32 := 1#32
  let v90 : BitVec 32 := Scalar.muli v9 c1_i32_56
  let v91 : BitVec 32 := Scalar.addi v89 v90
  v91.toNat
def k0_dev7 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v100 : BitVec 32 := Scalar.muli v2 c4_i32_61
  let v101 : BitVec 32 := Scalar.addi c0_i32_62 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v102 : BitVec 32 := Scalar.muli v5 c2_i32_63
  let v103 : BitVec 32 := Scalar.addi v101 v102
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_64 : BitVec 32 := 1#32
  let v104 : BitVec 32 := Scalar.muli v9 c1_i32_64
  let v105 : BitVec 32 := Scalar.addi v103 v104
  v105.toNat
def k0_off4 (d0 : Dev nD) (c512_i32_67 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32 : BitVec 32 := 512#32
  let v14 : BitVec 32 := Scalar.muli v13 c512_i32
  let v112 : BitVec 32 := Scalar.addi v14 c512_i32_67
  let c2048_i32_68 : BitVec 32 := 2048#32
  let c0_i32_69 : BitVec 32 := 0#32
  let v113 : BitVec 1 := Scalar.cmpi .eq c2048_i32_68 c0_i32_69
  let c1_i32_70 : BitVec 32 := 1#32
  let v114 : BitVec 32 := Scalar.select v113 c1_i32_70 c2048_i32_68
  let v115 : BitVec 32 := Scalar.remsi v112 v114
  let c0_i32_72 : BitVec 32 := 0#32
  let v117 : BitVec 1 := Scalar.cmpi .slt v115 c0_i32_72
  let c0_i32_73 : BitVec 32 := 0#32
  let v118 : BitVec 1 := Scalar.cmpi .slt v114 c0_i32_73
  let v119 : BitVec 1 := Scalar.xori v117 v118
  let c0_i32_71 : BitVec 32 := 0#32
  let v116 : BitVec 1 := Scalar.cmpi .ne v115 c0_i32_71
  let v120 : BitVec 1 := Scalar.andi v119 v116
  let v121 : BitVec 32 := Scalar.addi v115 v114
  let v122 : BitVec 32 := Scalar.select v120 v121 v115
  let v123 : Index := Scalar.indexCast v122
  let c0_74 : Index := 0#32
  ![v123.toNat, 0]
def k0_off5 (d0 : Dev nD) (c512_i32_67 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v47 : BitVec 32 := Scalar.muli v8 c2048_i32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32 : BitVec 32 := 512#32
  let v14 : BitVec 32 := Scalar.muli v13 c512_i32
  let v112 : BitVec 32 := Scalar.addi v14 c512_i32_67
  let c2048_i32_68 : BitVec 32 := 2048#32
  let c0_i32_69 : BitVec 32 := 0#32
  let v113 : BitVec 1 := Scalar.cmpi .eq c2048_i32_68 c0_i32_69
  let c1_i32_70 : BitVec 32 := 1#32
  let v114 : BitVec 32 := Scalar.select v113 c1_i32_70 c2048_i32_68
  let v115 : BitVec 32 := Scalar.remsi v112 v114
  let c0_i32_72 : BitVec 32 := 0#32
  let v117 : BitVec 1 := Scalar.cmpi .slt v115 c0_i32_72
  let c0_i32_73 : BitVec 32 := 0#32
  let v118 : BitVec 1 := Scalar.cmpi .slt v114 c0_i32_73
  let v119 : BitVec 1 := Scalar.xori v117 v118
  let c0_i32_71 : BitVec 32 := 0#32
  let v116 : BitVec 1 := Scalar.cmpi .ne v115 c0_i32_71
  let v120 : BitVec 1 := Scalar.andi v119 v116
  let v121 : BitVec 32 := Scalar.addi v115 v114
  let v122 : BitVec 32 := Scalar.select v120 v121 v115
  let v126 : BitVec 32 := Scalar.addi v47 v122
  let v127 : Index := Scalar.indexCast v126
  let c0_75 : Index := 0#32
  ![v127.toNat, 0]
def k0_off6 (d0 : Dev nD) (c0_i32_100 : BitVec 32) : Fin 2 → Nat :=
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_31 v8
  let c2048_i32_32 : BitVec 32 := 2048#32
  let v49 : BitVec 32 := Scalar.muli v48 c2048_i32_32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32 : BitVec 32 := 512#32
  let v14 : BitVec 32 := Scalar.muli v13 c512_i32
  let v173 : BitVec 32 := Scalar.addi v49 v14
  let v174 : BitVec 32 := Scalar.addi v173 c0_i32_100
  let c0_i32_107 : BitVec 32 := 0#32
  ![v174.toNat, 0]
def k0_dev8 (d0 : Dev nD) : Nat :=
  let c0_i32_104 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_103 : BitVec 32 := 4#32
  let v175 : BitVec 32 := Scalar.muli v10 c4_i32_103
  let v176 : BitVec 32 := Scalar.addi c0_i32_104 v175
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_105 : BitVec 32 := 2#32
  let v177 : BitVec 32 := Scalar.muli v5 c2_i32_105
  let v178 : BitVec 32 := Scalar.addi v176 v177
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_106 : BitVec 32 := 1#32
  let v179 : BitVec 32 := Scalar.muli v8 c1_i32_106
  let v180 : BitVec 32 := Scalar.addi v178 v179
  v180.toNat
def k0_dev9 (d0 : Dev nD) : Nat :=
  let c0_i32_112 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_111 : BitVec 32 := 4#32
  let v187 : BitVec 32 := Scalar.muli v2 c4_i32_111
  let v188 : BitVec 32 := Scalar.addi c0_i32_112 v187
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_113 : BitVec 32 := 2#32
  let v189 : BitVec 32 := Scalar.muli v11 c2_i32_113
  let v190 : BitVec 32 := Scalar.addi v188 v189
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_114 : BitVec 32 := 1#32
  let v191 : BitVec 32 := Scalar.muli v8 c1_i32_114
  let v192 : BitVec 32 := Scalar.addi v190 v191
  v192.toNat
def k0_dev10 (d0 : Dev nD) : Nat :=
  let c0_i32_129 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_128 : BitVec 32 := 4#32
  let v211 : BitVec 32 := Scalar.muli v10 c4_i32_128
  let v212 : BitVec 32 := Scalar.addi c0_i32_129 v211
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_130 : BitVec 32 := 2#32
  let v213 : BitVec 32 := Scalar.muli v5 c2_i32_130
  let v214 : BitVec 32 := Scalar.addi v212 v213
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_131 : BitVec 32 := 1#32
  let v215 : BitVec 32 := Scalar.muli v8 c1_i32_131
  let v216 : BitVec 32 := Scalar.addi v214 v215
  v216.toNat
def k0_dev11 (d0 : Dev nD) : Nat :=
  let c0_i32_137 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_136 : BitVec 32 := 4#32
  let v223 : BitVec 32 := Scalar.muli v2 c4_i32_136
  let v224 : BitVec 32 := Scalar.addi c0_i32_137 v223
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_138 : BitVec 32 := 2#32
  let v225 : BitVec 32 := Scalar.muli v11 c2_i32_138
  let v226 : BitVec 32 := Scalar.addi v224 v225
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_139 : BitVec 32 := 1#32
  let v227 : BitVec 32 := Scalar.muli v8 c1_i32_139
  let v228 : BitVec 32 := Scalar.addi v226 v227
  v228.toNat
def k0_dev12 (d0 : Dev nD) : Nat :=
  let c0_i32_154 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_153 : BitVec 32 := 4#32
  let v247 : BitVec 32 := Scalar.muli v10 c4_i32_153
  let v248 : BitVec 32 := Scalar.addi c0_i32_154 v247
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_155 : BitVec 32 := 2#32
  let v249 : BitVec 32 := Scalar.muli v5 c2_i32_155
  let v250 : BitVec 32 := Scalar.addi v248 v249
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v251 : BitVec 32 := Scalar.muli v8 c1_i32_156
  let v252 : BitVec 32 := Scalar.addi v250 v251
  v252.toNat
def k0_dev13 (d0 : Dev nD) : Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_161 : BitVec 32 := 4#32
  let v259 : BitVec 32 := Scalar.muli v2 c4_i32_161
  let v260 : BitVec 32 := Scalar.addi c0_i32_162 v259
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_163 : BitVec 32 := 2#32
  let v261 : BitVec 32 := Scalar.muli v11 c2_i32_163
  let v262 : BitVec 32 := Scalar.addi v260 v261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_164 : BitVec 32 := 1#32
  let v263 : BitVec 32 := Scalar.muli v8 c1_i32_164
  let v264 : BitVec 32 := Scalar.addi v262 v263
  v264.toNat
def k0_dev14 (d0 : Dev nD) : Nat :=
  let c0_i32_179 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_178 : BitVec 32 := 4#32
  let v283 : BitVec 32 := Scalar.muli v10 c4_i32_178
  let v284 : BitVec 32 := Scalar.addi c0_i32_179 v283
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_180 : BitVec 32 := 2#32
  let v285 : BitVec 32 := Scalar.muli v5 c2_i32_180
  let v286 : BitVec 32 := Scalar.addi v284 v285
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_181 : BitVec 32 := 1#32
  let v287 : BitVec 32 := Scalar.muli v8 c1_i32_181
  let v288 : BitVec 32 := Scalar.addi v286 v287
  v288.toNat
def k0_dev15 (d0 : Dev nD) : Nat :=
  let c0_i32_187 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_186 : BitVec 32 := 4#32
  let v295 : BitVec 32 := Scalar.muli v2 c4_i32_186
  let v296 : BitVec 32 := Scalar.addi c0_i32_187 v295
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_188 : BitVec 32 := 2#32
  let v297 : BitVec 32 := Scalar.muli v11 c2_i32_188
  let v298 : BitVec 32 := Scalar.addi v296 v297
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_189 : BitVec 32 := 1#32
  let v299 : BitVec 32 := Scalar.muli v8 c1_i32_189
  let v300 : BitVec 32 := Scalar.addi v298 v299
  v300.toNat
def k0_off7 (d0 : Dev nD) (c0_i32_192 : BitVec 32) : Fin 2 → Nat :=
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_31 v8
  let c2048_i32_32 : BitVec 32 := 2048#32
  let v49 : BitVec 32 := Scalar.muli v48 c2048_i32_32
  let c2_i32_10 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_10 v2
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.addi v19 v20
  let c512_i32_12 : BitVec 32 := 512#32
  let v22 : BitVec 32 := Scalar.muli v21 c512_i32_12
  let v307 : BitVec 32 := Scalar.addi v49 v22
  let v308 : BitVec 32 := Scalar.addi v307 c0_i32_192
  let c0_i32_199 : BitVec 32 := 0#32
  ![v308.toNat, 0]
def k0_dev16 (d0 : Dev nD) : Nat :=
  let c0_i32_205 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_204 : BitVec 32 := 4#32
  let v321 : BitVec 32 := Scalar.muli v10 c4_i32_204
  let v322 : BitVec 32 := Scalar.addi c0_i32_205 v321
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_206 : BitVec 32 := 2#32
  let v323 : BitVec 32 := Scalar.muli v5 c2_i32_206
  let v324 : BitVec 32 := Scalar.addi v322 v323
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_207 : BitVec 32 := 1#32
  let v325 : BitVec 32 := Scalar.muli v8 c1_i32_207
  let v326 : BitVec 32 := Scalar.addi v324 v325
  v326.toNat
def k0_dev17 (d0 : Dev nD) : Nat :=
  let c0_i32_223 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_222 : BitVec 32 := 4#32
  let v347 : BitVec 32 := Scalar.muli v10 c4_i32_222
  let v348 : BitVec 32 := Scalar.addi c0_i32_223 v347
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_224 : BitVec 32 := 2#32
  let v349 : BitVec 32 := Scalar.muli v5 c2_i32_224
  let v350 : BitVec 32 := Scalar.addi v348 v349
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_225 : BitVec 32 := 1#32
  let v351 : BitVec 32 := Scalar.muli v8 c1_i32_225
  let v352 : BitVec 32 := Scalar.addi v350 v351
  v352.toNat
def k0_off8 (d0 : Dev nD) (c256_i32_228 : BitVec 32) : Fin 2 → Nat :=
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_31 v8
  let c2048_i32_32 : BitVec 32 := 2048#32
  let v49 : BitVec 32 := Scalar.muli v48 c2048_i32_32
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_7 v2
  let v16 : BitVec 32 := Scalar.muli c2_i32_8 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.addi v16 v5
  let c512_i32_9 : BitVec 32 := 512#32
  let v18 : BitVec 32 := Scalar.muli v17 c512_i32_9
  let v359 : BitVec 32 := Scalar.addi v49 v18
  let v360 : BitVec 32 := Scalar.addi v359 c256_i32_228
  let c0_i32_235 : BitVec 32 := 0#32
  ![v360.toNat, 0]
def k0_dev18 (d0 : Dev nD) : Nat :=
  let c0_i32_241 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_240 : BitVec 32 := 4#32
  let v373 : BitVec 32 := Scalar.muli v2 c4_i32_240
  let v374 : BitVec 32 := Scalar.addi c0_i32_241 v373
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_242 : BitVec 32 := 2#32
  let v375 : BitVec 32 := Scalar.muli v11 c2_i32_242
  let v376 : BitVec 32 := Scalar.addi v374 v375
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_243 : BitVec 32 := 1#32
  let v377 : BitVec 32 := Scalar.muli v8 c1_i32_243
  let v378 : BitVec 32 := Scalar.addi v376 v377
  v378.toNat
def k0_dev19 (d0 : Dev nD) : Nat :=
  let c0_i32_259 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_258 : BitVec 32 := 4#32
  let v399 : BitVec 32 := Scalar.muli v2 c4_i32_258
  let v400 : BitVec 32 := Scalar.addi c0_i32_259 v399
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_260 : BitVec 32 := 2#32
  let v401 : BitVec 32 := Scalar.muli v11 c2_i32_260
  let v402 : BitVec 32 := Scalar.addi v400 v401
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_261 : BitVec 32 := 1#32
  let v403 : BitVec 32 := Scalar.muli v8 c1_i32_261
  let v404 : BitVec 32 := Scalar.addi v402 v403
  v404.toNat
def k0_off9 (d0 : Dev nD) (c0_i32_282 : BitVec 32) : Fin 2 → Nat :=
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_31 v8
  let c2048_i32_32 : BitVec 32 := 2048#32
  let v49 : BitVec 32 := Scalar.muli v48 c2048_i32_32
  let c2_i32_14 : BitVec 32 := 2#32
  let c1_i32_13 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v23 : BitVec 32 := Scalar.subi c1_i32_13 v2
  let v24 : BitVec 32 := Scalar.muli c2_i32_14 v23
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_15 v5
  let v26 : BitVec 32 := Scalar.addi v24 v25
  let c512_i32_16 : BitVec 32 := 512#32
  let v27 : BitVec 32 := Scalar.muli v26 c512_i32_16
  let v435 : BitVec 32 := Scalar.addi v49 v27
  let v436 : BitVec 32 := Scalar.addi v435 c0_i32_282
  let c0_i32_289 : BitVec 32 := 0#32
  ![v436.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
# The mesh and the transfers, as tables of numbers

Eight devices stand at the corners of a cube: device `c` has coordinates `x = c / 4`, `y = c / 2 % 2`, `z = c % 2`.
Every device ends with an array of 4096 rows: the half of its own `z` (rows `2048 * z …`) it copies from its own input,
the other half arrives in 16 chunks of 128 rows. The kernel starts exactly 16 remote copies on each device; this file
numbers them `0 … 15` and tabulates for each the direction it goes, the rows it reads (the same rows it writes on the
partner), and the order in which arrivals may wait for one another. All facts are about finitely many small numbers.

| number | copies | direction | rows |
|---|---|---|---|
| 0–3 | the device's own quarter, in four chunks | along `z` | own half, own quarter |
| 4–7 | the four chunks that came along `z` | along `x` | other half, own quarter |
| 8–11 | the same four chunks | along `y` | other half, own quarter |
| 12, 13 | chunks 0, 1 that came along `y` | along `x` | other half, quarter of the `y` partner |
| 14, 15 | chunks 2, 3 that came along `x` | along `y` | other half, quarter of the `x` partner |
-/
module

public import proofs.«01_k».proof.Proof.Gen.KernelIdeal

@[expose] public section

namespace Cert.AllGather

open Cert.KernelIdeal Cert.KernelIdeal.Gen
open Idealize.ShloMosaic

/-! ## Partners -/

/-- The partner of device `c` in direction `d`: `0` flips `z`, `1` flips `x`, `2` flips `y`. -/
def pr (d : Fin 3) (c : Dev nD) : Dev nD :=
  ⟨match d with
    | 0 => c.val - c.val % 2 + (1 - c.val % 2)
    | 1 => (c.val + 4) % 8
    | 2 => 4 * (c.val / 4) + (c.val % 4 + 2) % 4, by revert d c; decide⟩

/-- Going to the partner and back is staying. -/
theorem pr_pr : ∀ (d : Fin 3) (c : Dev nD), pr d (pr d c) = c := by decide

/-- Flipping a direction permutes the devices. -/
def prE (d : Fin 3) : Dev nD ≃ Dev nD := ⟨pr d, pr d, pr_pr d, pr_pr d⟩

/-! ## The sixteen transfers -/

/-- The number of a remote copy. -/
abbrev Tr : Type := Fin 16

/-- The direction a copy goes in. -/
def dir (t : Tr) : Fin 3 := if t.val < 4 then 0 else if t.val < 8 then 1 else if t.val < 12 then 2 else if t.val < 14 then 1 else 2

/-- The partner a copy of device `c` goes to, which is also the partner that copy comes to `c` from. -/
def peer (t : Tr) (c : Dev nD) : Dev nD := pr (dir t) c

theorem peer_peer (t : Tr) (c : Dev nD) : peer t (peer t c) = c := pr_pr _ _

/-- Sending every (device, copy) to the device the copy goes to permutes the pairs. -/
def peerE : Dev nD × Tr ≃ Dev nD × Tr :=
  ⟨fun p => (peer p.2 p.1, p.2), fun p => (peer p.2 p.1, p.2), fun p => by simp only [peer_peer], fun p => by simp only [peer_peer]⟩

/-- The first row device `c`'s copy `t` reads, and writes on the partner. -/
def src (t : Tr) (c : Dev nD) : ℕ :=
  if t.val < 4 then 2048 * (c.val % 2) + 512 * (c.val / 2) + 128 * t.val
  else if t.val < 12 then 2048 * (1 - c.val % 2) + 512 * (c.val / 2) + 128 * (t.val % 4)
  else if t.val < 14 then 2048 * (1 - c.val % 2) + 512 * ((pr 2 c).val / 2) + 128 * (t.val - 12)
  else 2048 * (1 - c.val % 2) + 512 * ((pr 1 c).val / 2) + 128 * (t.val - 12)

/-- The first row of device `c` that the copy `t` coming to it writes. -/
def dst (t : Tr) (c : Dev nD) : ℕ := src t (peer t c)

/-- The first row of the `k`-th quarter that device `c` copies from its own input: its own quarter first, then
    the three others of its half in turn. -/
def quart (k : Fin 4) (c : Dev nD) : ℕ := 2048 * (c.val % 2) + (512 * (c.val / 2) + 512 * k.val) % 2048

/-- The device whose input ends in rows `512 * b …` of device `c`: `c` itself in the half of its own `z`; else the
    device with the other `z` and the quarter's `x`, `y`. -/
def from_ (c : Dev nD) (b : ℕ) : Dev nD := if b / 4 = c.val % 2 then c else Fin.ofNat 8 (2 * (b % 4) + b / 4)

/-- Both ends of a copy take the rows it moves from the same device's input. -/
theorem from_peer : ∀ (t : Tr) (c : Dev nD), from_ (peer t c) (src t c / 512) = from_ c (src t c / 512) := by decide +kernel

/-- A chunk lies in one quarter. -/
theorem src_block : ∀ (t : Tr) (c : Dev nD), (src t c + 127) / 512 = src t c / 512 := by decide +kernel

theorem src_le : ∀ (t : Tr) (c : Dev nD), src t c + 128 ≤ 4096 := by decide +kernel

/-- The quarters a device copies from its own input are its own rows. -/
theorem from_quart : ∀ (k : Fin 4) (c : Dev nD), from_ c (quart k c / 512) = c ∧ quart k c / 512 * 512 = quart k c ∧ quart k c + 512 ≤ 4096 := by
  decide +kernel

/-! ## What is copied on is what arrived -/

/-- Copies 4–7 and 8–11 read the rows that copies 0–3 wrote; -/
theorem src_x : ∀ (r : Fin 4) (c : Dev nD), src (Fin.castLE (by decide) r + 4) c = dst (Fin.castLE (by decide) r) c
    ∧ src (Fin.castLE (by decide) r + 8) c = dst (Fin.castLE (by decide) r) c := by decide +kernel
/-- copies 12, 13 the rows that copies 8, 9 wrote; -/
theorem src_xr : ∀ (k : Fin 2) (c : Dev nD), src (Fin.castLE (by decide) k + 12) c = dst (Fin.castLE (by decide) k + 8) c := by decide +kernel
/-- copies 14, 15 the rows that copies 6, 7 wrote. -/
theorem src_yr : ∀ (k : Fin 2) (c : Dev nD), src (Fin.castLE (by decide) k + 14) c = dst (Fin.castLE (by decide) k + 6) c := by decide +kernel

/-! ## The pieces of the result -/

/-- The twenty pieces a device's result is held in at the start: the four quarters of its own half and the sixteen
    chunks that arrive. Their first rows … -/
def pieceLo (c : Dev nD) : Fin 4 ⊕ Tr → ℕ
  | .inl k => quart k c
  | .inr t => dst t c
/-- … and their numbers of rows. -/
def pieceLen : Fin 4 ⊕ Tr → ℕ
  | .inl _ => 512
  | .inr _ => 128

/-- No two pieces overlap. -/
theorem piece_apart : ∀ (c : Dev nD) (p p' : Fin 4 ⊕ Tr), p ≠ p' →
    pieceLo c p + pieceLen p ≤ pieceLo c p' ∨ pieceLo c p' + pieceLen p' ≤ pieceLo c p := by decide +kernel

/-- Every run of 128 rows lies in one piece. -/
theorem piece_cover : ∀ (c : Dev nD) (b : Fin 32), ∃ p : Fin 4 ⊕ Tr, pieceLo c p ≤ 128 * b.val ∧ 128 * b.val + 128 ≤ pieceLo c p + pieceLen p := by
  decide +kernel

/-- The own quarter is cut into the four chunks that copies 0–3 read. -/
theorem src_z : ∀ (r : Fin 4) (c : Dev nD), src (Fin.castLE (by decide) r) c = quart 0 c + 128 * r.val := by decide +kernel

/-! ## The kernel's own offsets and devices -/

theorem off3_eq : ∀ (r : Fin 4) (c : Dev nD), k0_off3 c (BitVec.ofNat 32 (128 * r.val)) = ![src (Fin.castLE (by decide) r) c, 0] := by decide +kernel
theorem off6_eq : ∀ (r : Fin 4) (c : Dev nD), k0_off6 c (BitVec.ofNat 32 (128 * r.val)) = ![src (Fin.castLE (by decide) r + 4) c, 0]
    ∧ k0_off6 c (BitVec.ofNat 32 (128 * r.val)) = ![src (Fin.castLE (by decide) r + 8) c, 0] := by decide +kernel
theorem off7_eq : ∀ (k : Fin 2) (c : Dev nD), k0_off7 c (BitVec.ofNat 32 (128 * k.val)) = ![src (Fin.castLE (by decide) k + 12) c, 0] := by decide +kernel
theorem off8_eq : ∀ (k : Fin 2) (c : Dev nD), k0_off8 c (BitVec.ofNat 32 (128 * (2 + k.val))) = ![src (Fin.castLE (by decide) k + 14) c, 0] := by decide +kernel

/-- The quarter's rows in the input. -/
def quartX (k : Fin 4) (c : Dev nD) : ℕ := (512 * (c.val / 2) + 512 * k.val) % 2048

theorem off1_eq : ∀ c : Dev nD, k0_off1 c = ![quartX 0 c, 0] := by decide +kernel
theorem off2_eq : ∀ c : Dev nD, k0_off2 c = ![quart 0 c, 0] := by decide +kernel
theorem off4_eq : ∀ (r : Fin 3) (c : Dev nD), k0_off4 c (BitVec.ofNat 32 (512 + 512 * r.val)) = ![quartX r.succ c, 0] := by decide +kernel
theorem off5_eq : ∀ (r : Fin 3) (c : Dev nD), k0_off5 c (BitVec.ofNat 32 (512 + 512 * r.val)) = ![quart r.succ c, 0] := by decide +kernel

/-- A row of a quarter of the result and the row of the input it is copied from. -/
theorem quart_mod (k : Fin 4) (c : Dev nD) (j : ℕ) (hj : j < 512) : (quart k c + j) % 2048 = quartX k c + j := by
  have h : quart k c = 2048 * (c.val % 2) + quartX k c := rfl
  have hx : quartX k c + 512 ≤ 2048 := by revert k c; decide +kernel
  omega

theorem dev_z : ∀ c : Dev nD, k0_dev1 c = (pr 0 c).val ∧ k0_dev4 c = (pr 0 c).val ∧ k0_dev5 c = (pr 0 c).val ∧ k0_dev6 c = (pr 0 c).val
    ∧ k0_dev7 c = (pr 0 c).val := by decide +kernel
theorem dev_x : ∀ c : Dev nD, k0_dev2 c = (pr 1 c).val ∧ k0_dev8 c = (pr 1 c).val ∧ k0_dev10 c = (pr 1 c).val ∧ k0_dev12 c = (pr 1 c).val
    ∧ k0_dev14 c = (pr 1 c).val ∧ k0_dev16 c = (pr 1 c).val ∧ k0_dev17 c = (pr 1 c).val := by decide +kernel
theorem dev_y : ∀ c : Dev nD, k0_dev3 c = (pr 2 c).val ∧ k0_dev9 c = (pr 2 c).val ∧ k0_dev11 c = (pr 2 c).val ∧ k0_dev13 c = (pr 2 c).val
    ∧ k0_dev15 c = (pr 2 c).val ∧ k0_dev18 c = (pr 2 c).val ∧ k0_dev19 c = (pr 2 c).val := by decide +kernel

end Cert.AllGather

end
-- ==== Proof.Rows.lean ====
/-
# The result's rows: what they finally hold, and how a copy or a store puts it there

`outAt X c` is what device `c`'s result ends with, given every device's input `X`: rows `512 * b …` of it come from the
input of device `from_ c b`. The two facts about contents the run needs: storing a loaded quarter of the device's own
input puts `outAt` there (`store_quarter`), and copying rows that hold the sender's `outAt` into the same rows of the
partner puts the partner's `outAt` there (`copy_chunk`). The element sets are intervals of rows (`rows`).
-/
module

public import proofs.«01_k».proof.Proof.Mesh
public import proofs.«01_k».proof.Proof.Gen.KernelIdeal.Skeleton
public import Idealize.ShloMosaic.Lib.Pipeline.Value
public import Idealize.ShloMosaic.Lib.Pipeline.ValueKit.Geometry

@[expose] public section

noncomputable section

namespace Cert.AllGather

open Cert.KernelIdeal Cert.KernelIdeal.Gen
open Idealize.ShloMosaic

variable {F : FTy → Type}

/-! ## The final contents -/

/-- The input and the result as the body sees them: its two staging buffers. -/
abbrev InC (F : FTy → Type) : Type := (cc0_stg0_0 : Ref sig .tc).ty.Contents (Elt F)
abbrev OutC (F : FTy → Type) : Type := (cc0_stg1_0 : Ref sig .tc).ty.Contents (Elt F)

/-- The input's index under a result's index: its row modulo 2048, its column. -/
def inIdx (i : S4096x512.Idx) : S2048x512.Idx :=
  fun | 0 => ⟨(i 0).val % 2048, Nat.mod_lt _ (by decide)⟩ | 1 => ⟨(i 1).val, (i 1).isLt⟩

/-- What device `c`'s result ends with, from all the devices' inputs. -/
def outAt (X : Dev nD → InC F) (c : Dev nD) : OutC F := fun i => X (from_ c ((i 0).val / 512)) (inIdx i)

/-! ## Intervals of rows -/

/-- The elements of rows `lo … lo + n - 1`. -/
def rows (lo n : ℕ) : Finset S4096x512.Idx := Finset.univ.filter fun i => lo ≤ (i 0).val ∧ (i 0).val < lo + n

theorem mem_rows {lo n : ℕ} {i : S4096x512.Idx} : i ∈ rows lo n ↔ lo ≤ (i 0).val ∧ (i 0).val < lo + n := by
  unfold rows; rw [Finset.mem_filter]; exact and_iff_right (Finset.mem_univ _)

/-- Rectangles of whole rows are intervals of rows. -/
theorem rect_rows (n : ℕ) (lo : ℕ) (inb) :
    (Rect.unit (s := S4096x512) ![lo, 0] (⟨2, ![n, 512]⟩ : Shape).size inb).set = rows lo n := by
  ext i
  rw [Rect.mem_set_unit, mem_rows]
  refine ⟨fun h => h 0, fun h a => ?_⟩
  fin_cases a
  · exact h
  · exact ⟨Nat.zero_le _, by simpa using (i 1).isLt⟩

theorem rows_disjoint {lo n lo' n' : ℕ} (h : lo + n ≤ lo' ∨ lo' + n' ≤ lo) : Disjoint (rows lo n) (rows lo' n') :=
  Finset.disjoint_left.mpr fun i hi hi' => by rw [mem_rows] at hi hi'; omega

/-- The elements of one piece of device `c`'s result. -/
def piece (c : Dev nD) (p : Fin 4 ⊕ Tr) : Finset S4096x512.Idx := rows (pieceLo c p) (pieceLen p)

theorem piece_disjoint (c : Dev nD) (p p' : Fin 4 ⊕ Tr) (h : p ≠ p') : Disjoint (piece c p) (piece c p') :=
  rows_disjoint (piece_apart c p p' h)

/-- The pieces make up the result. -/
theorem piece_union (c : Dev nD) : Finset.univ.biUnion (piece c) = (Finset.univ : Finset S4096x512.Idx) := by
  ext i
  refine ⟨fun _ => Finset.mem_univ _, fun _ => Finset.mem_biUnion.mpr ?_⟩
  have hi : (i 0).val < 4096 := (i 0).isLt
  obtain ⟨p, h1, h2⟩ := piece_cover c ⟨(i 0).val / 128, by omega⟩
  exact ⟨p, Finset.mem_univ _, mem_rows.mpr (by simp only at h1 h2; omega)⟩

/-- The four chunks of a quarter. -/
theorem chunks_union (lo : ℕ) : Finset.univ.biUnion (fun r : Fin 4 => rows (lo + 128 * r.val) 128) = rows lo 512 := by
  ext i
  rw [Finset.mem_biUnion, mem_rows]
  refine ⟨fun ⟨r, _, h⟩ => by rw [mem_rows] at h; omega, fun h => ?_⟩
  refine ⟨⟨((i 0).val - lo) / 128, by omega⟩, Finset.mem_univ _, mem_rows.mpr ?_⟩
  simp only; omega

theorem chunks_disjoint (lo : ℕ) (r r' : Fin 4) (h : r ≠ r') : Disjoint (rows (lo + 128 * r.val) 128) (rows (lo + 128 * r'.val) 128) :=
  rows_disjoint (by have := Fin.val_ne_of_ne h; omega)

/-! ## The views of the result -/

/-- The result's staging buffer, whole, and its `n` rows from `off`. -/
abbrev xM : Memref sig .tc .vmem S2048x512 .bf16 := Memref.whole cc0_stg0_0
abbrev oM : Memref sig .tc .vmem S4096x512 .bf16 := Memref.whole cc0_stg1_0
abbrev chunkM (off : Fin 2 → ℕ) (inb : ∀ a, off a + S128x512.size a ≤ S4096x512.size a) : Memref sig .tc .vmem S128x512 .bf16 :=
  oM.slice (Rect.unit (s := S4096x512) off S128x512.size inb) (fun _ => rfl)

theorem chunk_set (lo : ℕ) (inb) : (chunkM ![lo, 0] inb).view.set = rows lo 128 := by
  show ((View.whole cc0_stg1_0).slice _).set = _
  rw [View.set_slice_whole]; exact rect_rows 128 lo inb

theorem quarter_set (lo : ℕ) (inb) : ((oM.access (Rect.unit (s := S4096x512) ![lo, 0] S512x512.size inb) : View sig .tc _ _ _)).set = rows lo 512 := by
  show ((View.whole cc0_stg1_0).slice _).set = _
  rw [View.set_slice_whole]; exact rect_rows 512 lo inb

variable (X : Dev nD → InC F)

/-- Rows that lie in one quarter, read off the sender's final contents and written over anything on the partner, are
    the partner's final contents there. -/
theorem copy_chunk (t : Tr) (c : Dev nD) (inb inb') (fd : OutC F) (i : S4096x512.Idx) (hi : i ∈ rows (src t c) 128) :
    (chunkM ![src t c, 0] inb).view.write (Elt F) fd ((chunkM ![src t c, 0] inb').view.read (Elt F) (outAt X c)) Finset.univ i
      = outAt X (peer t c) i := by
  have hi' := hi
  rw [← chunk_set _ inb] at hi'
  obtain ⟨x, -, rfl⟩ := Finset.mem_map.mp hi'
  refine (View.write_emb_of_mem (v := (chunkM ![src t c, 0] inb).view) (Val := Elt F) fd _ (Finset.mem_univ x)).trans ?_
  show outAt X c ((chunkM ![src t c, 0] inb).view.emb x) = _
  rw [mem_rows] at hi
  have hb := src_block t c
  have hq : (((chunkM ![src t c, 0] inb).view.emb x) 0).val / 512 = src t c / 512 := by omega
  unfold outAt
  rw [hq, from_peer]

/-- A quarter of the device's own input, loaded and stored at the quarter's place in its half, is the device's final
    contents there. -/
theorem store_quarter (k : Fin 4) (c : Dev nD) (inb inb') (f : OutC F) (i : S4096x512.Idx) (hi : i ∈ rows (quart k c) 512) :
    ((oM.access (Rect.unit (s := S4096x512) ![quart k c, 0] S512x512.size inb) : View sig .tc _ _ _)).write (Elt F) f
        ((xM.view.readAt (Elt F) (Rect.unit (s := S2048x512) ![quartX k c, 0] S512x512.size inb').toLoadRect (X c))) Finset.univ i
      = outAt X c i := by
  have hi' := hi
  rw [← quarter_set _ inb] at hi'
  obtain ⟨x, -, rfl⟩ := Finset.mem_map.mp hi'
  refine (View.write_emb_of_mem (v := ((oM.access (Rect.unit (s := S4096x512) ![quart k c, 0] S512x512.size inb) : View sig .tc _ _ _))) (Val := Elt F) f _ (Finset.mem_univ x)).trans ?_
  have h0 : ((((oM.access (Rect.unit (s := S4096x512) ![quart k c, 0] S512x512.size inb) : View sig .tc _ _ _)).emb x) 0).val = quart k c + (x 0).val :=
    ValueKit.rect_emb_unit_val (s := S4096x512) ![quart k c, 0] S512x512.size inb x 0
  have h1 : ((((oM.access (Rect.unit (s := S4096x512) ![quart k c, 0] S512x512.size inb) : View sig .tc _ _ _)).emb x) 1).val = 0 + (x 1).val :=
    ValueKit.rect_emb_unit_val (s := S4096x512) ![quart k c, 0] S512x512.size inb x 1
  have g0 : ((Rect.unit (s := S2048x512) ![quartX k c, 0] S512x512.size inb').emb x 0).val = quartX k c + (x 0).val :=
    ValueKit.rect_emb_unit_val (s := S2048x512) ![quartX k c, 0] S512x512.size inb' x 0
  have g1 : ((Rect.unit (s := S2048x512) ![quartX k c, 0] S512x512.size inb').emb x 1).val = 0 + (x 1).val :=
    ValueKit.rect_emb_unit_val (s := S2048x512) ![quartX k c, 0] S512x512.size inb' x 1
  have hx : (x 0).val < 512 := (x 0).isLt
  have hb := from_quart k c
  have hq : ((((oM.access (Rect.unit (s := S4096x512) ![quart k c, 0] S512x512.size inb) : View sig .tc _ _ _)).emb x) 0).val / 512 = quart k c / 512 := by omega
  unfold outAt
  rw [hq, hb.1]
  show X c ((Rect.unit (s := S2048x512) ![quartX k c, 0] S512x512.size inb').emb x) = _
  refine congrArg (X c) (funext fun a => Fin.ext ?_)
  fin_cases a
  · refine g0.trans ((quart_mod k c _ hx).symm.trans ?_)
    show _ = ((((oM.access (Rect.unit (s := S4096x512) ![quart k c, 0] S512x512.size inb) : View sig .tc _ _ _)).emb x) 0).val % 2048
    rw [h0]
  · exact g1.trans h1.symm

end Cert.AllGather

end
-- ==== Proof.Protocol.lean ====
/-
# The protocol: who pays which semaphore, with what, and when one may wait

Every device has 33 semaphores of its own in the exchange: the runtime's barrier semaphore and, for each of the sixteen
copies, one that counts the copy leaving and one that counts the copy arriving. Each is used for one round.

* The barrier expects three units, one from each partner. A partner's unit hands over the rows of the PARTNER's result
  that this device's copies in that direction will write (`gift`): afterwards nobody else touches those rows until the
  copies arrive.
* The leaving semaphore of copy `t` gives the device its rows back, the share of them that the copy read (`share`).
* The arriving semaphore of copy `t` gives the device the rows copy `t` wrote, holding their final contents.

The contents are those of `outAt X`, so the whole schedule is a function of the inputs `X`. What a device still owes its
partners is a list of dues (`owed`); the levels (`lv`) rank the barrier below the copies along `z`, those below the
direct copies along `x` and `y`, those below the copies that pass on an arrival: every wait is for something ranked
below all that the waiting device still owes.
-/
module

public import proofs.«01_k».proof.Proof.Rows
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The ghost state: the launch's own, and the exchange's rounds with duties named by the three directions. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- The runtime's barrier semaphore. -/
abbrev barS : Sem sig := (SemArray.scalar (sig.barrier 0 rfl) : Sems sig S_).sem

/-- The number of the semaphore that counts copy `t` leaving (`false`) or arriving (`true`). -/
def semNo (b : Bool) (t : Tr) : ℕ :=
  if t.val < 12 then 2 + 8 * (t.val / 4) + (if b then 4 else 0) + t.val % 4
  else 26 + 4 * ((t.val - 12) / 2) + (if b then 2 else 0) + t.val % 2

theorem semNo_lt : ∀ (b : Bool) (t : Tr), semNo b t < 34 := by decide

/-- That semaphore. -/
def sem (b : Bool) (t : Tr) : DmaSem sig := ⟨semNo b t, semNo_lt b t⟩

/-- Which copy a semaphore counts, if any. -/
def trOf (s : DmaSem sig) : Option (Bool × Tr) :=
  if s.val < 2 then none
  else if s.val < 26 then some (decide (4 ≤ (s.val - 2) % 8), Fin.ofNat 16 (4 * ((s.val - 2) / 8) + (s.val - 2) % 4))
  else some (decide (2 ≤ (s.val - 26) % 4), Fin.ofNat 16 (12 + 2 * ((s.val - 26) / 4) + (s.val - 26) % 2))

theorem trOf_sem : ∀ (b : Bool) (t : Tr), trOf (sem b t) = some (b, t) := by decide

/-- A device's semaphores of the exchange: the barrier, and two for each copy. -/
abbrev CI : Type := Unit ⊕ (Bool × Tr)

abbrev barCell (c : Dev nD) : GSem nD τ sig := ((c : Thread nD τ), .reg barS)
abbrev cell (b : Bool) (t : Tr) (c : Dev nD) : GSem nD τ sig := ((c : Thread nD τ), .dma (sem b t))
def kcell : Dev nD × CI → GSem nD τ sig
  | (c, .inl _) => barCell c
  | (c, .inr p) => cell p.1 p.2 c

/-- Which of its device's semaphores of the exchange a semaphore is, if any. -/
def kind (g : GSem nD τ sig) : Option CI :=
  if g.1.2 = .tc then
    match g.2 with
    | .reg s => if s = barS then some (.inl ()) else none
    | .dma s => (trOf s).map .inr
  else none

theorem kind_bar (c : Dev nD) : kind (barCell c) = some (.inl ()) := by
  unfold kind; rw [if_pos rfl]; exact if_pos rfl
theorem kind_cell (b : Bool) (t : Tr) (c : Dev nD) : kind (cell b t c) = some (.inr (b, t)) := by
  unfold kind; rw [if_pos rfl]; show (trOf (sem b t)).map _ = _; rw [trOf_sem]; rfl

theorem kind_kcell (p : Dev nD × CI) : kind (kcell p) = some p.2 := by
  obtain ⟨c, u | ⟨b, t⟩⟩ := p
  · exact kind_bar c
  · exact kind_cell b t c

theorem kcell_dev (p : Dev nD × CI) : (kcell p).1.1 = p.1 := by
  obtain ⟨c, u | ⟨b, t⟩⟩ := p <;> rfl

theorem kcell_injective : Function.Injective kcell := fun p q h =>
  Prod.ext ((kcell_dev p).symm.trans ((congrArg (fun g : GSem nD τ sig => g.1.1) h).trans (kcell_dev q)))
    (Option.some.inj ((kind_kcell p).symm.trans ((congrArg kind h).trans (kind_kcell q))))

/-- What one chunk of 128 rows counts for. -/
abbrev N : ℕ := (chunkM ![0, 0] (by decide)).view.dmaCredit
theorem N_pos : 0 < N := View.dmaCredit_pos _ (by decide)

/-! ## The payloads -/

/-- Rows `lo … lo + n - 1` of device `c`'s result, holding `f`, a share `q` of them. -/
abbrev held (c : Dev nD) (lo n : ℕ) (q : PosShare TreeShare) (f : OutC F) : sProp 𝕄 :=
  (((c : Thread nD τ).loc cc0_stg1_0) ↦[rows lo n]{q} f)

/-- The rows of the partner that device `c`'s copy `t` writes, holding anything. -/
def gift (t : Tr) (c : Dev nD) : sProp 𝕄 := iprop(∃ f : OutC F, held (peer t c) (src t c) 128 fullShare f)

/-- What the partner in direction `d` hands device `c` at the barrier. -/
def barPay : Fin 3 → Dev nD → sProp 𝕄
  | 0, c => iprop(gift 0 c ∗ gift 1 c ∗ gift 2 c ∗ gift 3 c)
  | 1, c => iprop(gift 4 c ∗ gift 5 c ∗ gift 6 c ∗ gift 7 c ∗ gift 12 c ∗ gift 13 c)
  | 2, c => iprop(gift 8 c ∗ gift 9 c ∗ gift 10 c ∗ gift 11 c ∗ gift 14 c ∗ gift 15 c)

theorem barPay_z (c : Dev nD) : barPay 0 c = (iprop(gift 0 c ∗ gift 1 c ∗ gift 2 c ∗ gift 3 c) : sProp 𝕄) := rfl
theorem barPay_x (c : Dev nD) : barPay 1 c = (iprop(gift 4 c ∗ gift 5 c ∗ gift 6 c ∗ gift 7 c ∗ gift 12 c ∗ gift 13 c) : sProp 𝕄) := rfl
theorem barPay_y (c : Dev nD) : barPay 2 c = (iprop(gift 8 c ∗ gift 9 c ∗ gift 10 c ∗ gift 11 c ∗ gift 14 c ∗ gift 15 c) : sProp 𝕄) := rfl

/-- The share of its rows a copy reads: the direct copies along `x` and along `y` read the same rows at the same time,
    half a share each. -/
def share (t : Tr) : PosShare TreeShare := if t.val / 4 = 1 then fullShare.left else if t.val / 4 = 2 then fullShare.right else fullShare

variable (X : Dev nD → InC F)

/-- What comes back when device `c`'s copy `t` has left, -/
def sendPay (t : Tr) (c : Dev nD) : sProp 𝕄 := held c (src t c) 128 (share t) (outAt X c)
/-- and what comes when the copy `t` to device `c` has arrived. -/
def recvPay (t : Tr) (c : Dev nD) : sProp 𝕄 := held c (dst t c) 128 fullShare (outAt X c)

/-- A semaphore's payload, by which semaphore it is. -/
def pay (c : Dev nD) (d : Fin 3) : Option CI → sProp 𝕄
  | some (.inl _) => barPay d c
  | some (.inr (false, t)) => sendPay X t c
  | some (.inr (true, t)) => recvPay X t c
  | none => iprop(emp)

instance gift_storable (t : Tr) (c : Dev nD) : BI.Storable (upEmb : UEmb _ 𝕄) (gift (F := F) t c) := by unfold gift; infer_instance
instance sendPay_storable (t : Tr) (c : Dev nD) : BI.Storable (upEmb : UEmb _ 𝕄) (sendPay (F := F) X t c) := by unfold sendPay; infer_instance
instance recvPay_storable (t : Tr) (c : Dev nD) : BI.Storable (upEmb : UEmb _ 𝕄) (recvPay (F := F) X t c) := by unfold recvPay; infer_instance
instance barPay_storable (d : Fin 3) (c : Dev nD) : BI.Storable (upEmb : UEmb _ 𝕄) (barPay (F := F) d c) := by
  match d with
  | 0 => unfold barPay; infer_instance
  | 1 => unfold barPay; infer_instance
  | 2 => unfold barPay; infer_instance

/-! ## The schedule -/

def dutyOf : Option CI → Finset (Fin 3)
  | some (.inl _) => Finset.univ
  | some (.inr _) => {0}
  | none => ∅
def amountOf : Option CI → ℕ
  | some (.inr _) => N
  | _ => 1

/-- One round: the barrier has a duty of one unit for each direction, a copy's semaphore one duty of a chunk. -/
def sched : Rounds.Schedule (GSem nD τ sig) (Fin 3) 𝕄 where
  duties g r := if r = 0 then dutyOf (kind g) else ∅
  unitless _ := False
  amount g _ _ := amountOf (kind g)
  payload g _ d := pay X g.1.1 d (kind g)
  amount_pos g _ _ _ := by
    unfold amountOf; split
    · exact N_pos
    · exact Nat.one_pos

instance sched_storable (g : GSem nD τ sig) (r : ℕ) (d : Fin 3) :
    BI.Storable (upEmb : UEmb _ 𝕄) ((sched (F := F) X).payload g r d) := by
  show BI.Storable upEmb (pay X g.1.1 d (kind g))
  unfold pay; split <;> infer_instance

theorem duties_bar (c : Dev nD) : (sched X).duties (barCell c) 0 = Finset.univ := by
  show (if (0 : ℕ) = 0 then dutyOf (kind (barCell c)) else ∅) = _; rw [if_pos rfl, kind_bar]; rfl
theorem duties_cell (b : Bool) (t : Tr) (c : Dev nD) : (sched X).duties (cell b t c) 0 = {0} := by
  show (if (0 : ℕ) = 0 then dutyOf (kind (cell b t c)) else ∅) = _; rw [if_pos rfl, kind_cell]; rfl
theorem duties_later (g : GSem nD τ sig) : ∀ r, 1 ≤ r → (sched X).duties g r = ∅ := fun r hr => if_neg (by omega)

theorem amount_bar (c : Dev nD) (d : Fin 3) : (sched X).amount (barCell c) 0 d = 1 := by
  show amountOf (kind (barCell c)) = _; rw [kind_bar]; rfl
theorem amount_cell (b : Bool) (t : Tr) (c : Dev nD) (d : Fin 3) : (sched X).amount (cell b t c) 0 d = N := by
  show amountOf (kind (cell b t c)) = _; rw [kind_cell]; rfl

theorem expect_bar (c : Dev nD) : (sched X).expect (barCell c) 0 = 3 := by
  unfold Schedule.expect Schedule.amountOf
  rw [duties_bar, Finset.sum_congr rfl fun d _ => amount_bar X c d, Finset.sum_const, Finset.card_univ, Fintype.card_fin, smul_eq_mul]
theorem expect_cell (b : Bool) (t : Tr) (c : Dev nD) : (sched X).expect (cell b t c) 0 = N := by
  unfold Schedule.expect Schedule.amountOf; rw [duties_cell, Finset.sum_singleton, amount_cell]

theorem payload_bar (c : Dev nD) (d : Fin 3) : (sched X).payload (barCell c) 0 d = barPay d c := by
  show pay X c d (kind (barCell c)) = _; rw [kind_bar]; rfl
theorem payload_send (t : Tr) (c : Dev nD) (d : Fin 3) : (sched X).payload (cell false t c) 0 d = sendPay X t c := by
  show pay X c d (kind (cell false t c)) = _; rw [kind_cell]; rfl
theorem payload_recv (t : Tr) (c : Dev nD) (d : Fin 3) : (sched X).payload (cell true t c) 0 d = recvPay X t c := by
  show pay X c d (kind (cell true t c)) = _; rw [kind_cell]; rfl

/-- All that a barrier's round pays; -/
theorem rest_bar (c : Dev nD) : bigSep ((sched X).duties (barCell c) 0 \ ∅) (fun d => (sched X).payload (barCell c) 0 d)
    = iprop(barPay 0 c ∗ barPay 1 c ∗ barPay 2 c) := by
  rw [Finset.sdiff_empty, duties_bar, bigSep_univ_eq_bigSepL [0, 1, 2] (by decide) (by decide), bigSepL_cons_cons, bigSepL_cons_cons, bigSepL_singleton,
    payload_bar, payload_bar, payload_bar]
  rfl
/-- all that a leaving copy's round pays; -/
theorem rest_send (t : Tr) (c : Dev nD) : bigSep ((sched X).duties (cell false t c) 0 \ ∅) (fun d => (sched X).payload (cell false t c) 0 d) = sendPay X t c := by
  rw [Finset.sdiff_empty, duties_cell, bigSep_singleton, payload_send]
/-- all that an arriving copy's round pays. -/
theorem rest_recv (t : Tr) (c : Dev nD) : bigSep ((sched X).duties (cell true t c) 0 \ ∅) (fun d => (sched X).payload (cell true t c) 0 d) = recvPay X t c := by
  rw [Finset.sdiff_empty, duties_cell, bigSep_singleton, payload_recv]

/-! ## Dues and levels -/

/-- A due: a unit at the barrier of the partner in a direction, or a copy's arrival at its partner. -/
abbrev Due : Type := Fin 3 ⊕ Tr

def dueAt (c : Dev nD) : Due → GSem nD τ sig
  | .inl d => barCell (pr d c)
  | .inr t => cell true t (peer t c)
def dueAmt : Due → ℕ
  | .inl _ => 1
  | .inr _ => N

/-- What device `c` owes for a list of dues; the first due of the list is the last summand. -/
def owed (c : Dev nD) : List Due → CellTallies nD τ sig Unit
  | [] => 0
  | x :: l => owed c l + tallyAt (dueAt c x) () (dueAmt x)

/-! The dues left after each payment, in the order the kernel pays: `D0` is all of them, `D19` none. -/

abbrev D19 : List Due := []
abbrev D18 : List Due := .inr 15 :: D19
abbrev D17 : List Due := .inr 14 :: D18
abbrev D16 : List Due := .inr 13 :: D17
abbrev D15 : List Due := .inr 12 :: D16
abbrev D14 : List Due := .inr 11 :: D15
abbrev D13 : List Due := .inr 7 :: D14
abbrev D12 : List Due := .inr 10 :: D13
abbrev D11 : List Due := .inr 6 :: D12
abbrev D10 : List Due := .inr 9 :: D11
abbrev D9 : List Due := .inr 5 :: D10
abbrev D8 : List Due := .inr 8 :: D9
abbrev D7 : List Due := .inr 4 :: D8
abbrev D6 : List Due := .inr 3 :: D7
abbrev D5 : List Due := .inr 2 :: D6
abbrev D4 : List Due := .inr 1 :: D5
abbrev D3 : List Due := .inr 0 :: D4
abbrev D2 : List Due := .inl 2 :: D3
abbrev D1 : List Due := .inl 1 :: D2
abbrev D0 : List Due := .inl 0 :: D1

/-- What is owed somewhere is one of the dues. -/
theorem owed_pos (c : Dev nD) : ∀ (l : List Due) {g : GSem nD τ sig} {u : Unit}, 0 < owed c l g u → ∃ x ∈ l, g = dueAt c x
  | [], g, u, h => absurd h (Nat.lt_irrefl 0)
  | x :: l, g, u, h => by
    unfold owed at h
    rw [Pi.add_apply, Finsupp.add_apply] at h
    by_cases hx : 0 < owed c l g u
    · obtain ⟨y, hy, e⟩ := owed_pos c l hx
      exact ⟨y, List.mem_cons_of_mem _ hy, e⟩
    · exact ⟨x, List.mem_cons_self, (Pipeline.tallyAt_pos (by omega : 0 < tallyAt (dueAt c x) () (dueAmt x) g u)).1⟩

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The rank of a copy's arrival, -/
def lvTr (t : Tr) : ℕ := if t.val < 4 then 2 else if t.val < 12 then 3 else 4
/-- of a due, -/
def lvDue : Due → ℕ
  | .inl _ => 1
  | .inr t => lvTr t
/-- of a semaphore. -/
def lvOf : Option CI → ℕ
  | some (.inl _) => 1
  | some (.inr (true, t)) => lvTr t
  | _ => 0
def lv (g : GSem nD τ sig) (_ : Unit) : ℕ := lvOf (kind g)

theorem lv_due (c : Dev nD) (x : Due) (u : Unit) : lv (dueAt c x) u = lvDue x := by
  unfold lv
  match x with
  | .inl d => show lvOf (kind (barCell (pr d c))) = _; rw [kind_bar]; rfl
  | .inr t => show lvOf (kind (cell true t (peer t c))) = _; rw [kind_cell]; rfl

/-- A device may wait at a semaphore ranked below all it still owes. -/
theorem mayWait (c : Dev nD) (sm : SemLoc sig) (l : List Due) (h : ∀ x ∈ l, lv ((c : Thread nD τ), sm) () < lvDue x) :
    (levAts L lv : sProp 𝕄) ⊢ MayWait (c : Thread nD τ) sm () (owed c l) :=
  MayOwe.of_cut (L := L) (lev := lv) (lv ((c : Thread nD τ), sm) ())
    (fun p hp => by rw [Finset.mem_singleton.mp hp, L_tc]; exact Finset.mem_singleton_self _)
    (fun g u hg => by
      obtain ⟨x, -, rfl⟩ := owed_pos c l hg
      match x with
      | .inl d => exact Finset.mem_singleton_self _
      | .inr t => exact Finset.mem_singleton_self _)
    (fun p hp => by rw [Finset.mem_singleton.mp hp])
    (fun g u hg => by
      obtain ⟨x, hx, rfl⟩ := owed_pos c l hg
      rw [lv_due]; exact h x hx)

end Cert.AllGather

end
-- ==== Proof.Steps.lean ====
/-
# One lemma for each kind of operation the kernel performs

A signal at a partner's barrier, the wait at the own barrier, a quarter loaded and stored, a remote copy started, a
copy's departure or arrival waited for. Each is stated once, for any device, direction or copy, over the schedule of
`Protocol.lean`; offsets, devices and semaphores are variables, so that the kernel's own expressions for them fit.
-/
module

public import proofs.«01_k».proof.Proof.Protocol

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → InC F) (K : Dev nD × CI → ℕ)

/-! ## What every step may use, as often as it likes -/

/-- Every semaphore's invariant, and that every semaphore is in its round 0. -/
def records : sProp 𝕄 :=
  iprop((bigSep Finset.univ fun p : Dev nD × CI => cellInv ER (sched X) (K p) (kcell p))
    ∗ bigSep Finset.univ fun p : Dev nD × CI => reached ER (kcell p) 0)

instance records_persistent : BI.Persistent (records X K) := by unfold records; infer_instance

omit [FloatOps F] in
theorem records_inv (p : Dev nD × CI) : records X K ⊢ cellInv ER (sched X) (K p) (kcell p) := by
  unfold records
  iintro ⟨H, -⟩
  iapply (show (bigSep Finset.univ fun p : Dev nD × CI => cellInv ER (sched X) (K p) (kcell p)) ⊢ cellInv ER (sched X) (K p) (kcell p) from bigSep_elim (Finset.mem_univ p)) $$ H

omit [FloatOps F] in
theorem records_reached (p : Dev nD × CI) : records X K ⊢ (reached ER (kcell p) 0 : sProp 𝕄) := by
  unfold records
  iintro ⟨-, H⟩
  iapply (show (bigSep Finset.univ fun p : Dev nD × CI => (reached ER (kcell p) 0 : sProp 𝕄)) ⊢ reached ER (kcell p) 0 from bigSep_elim (Finset.mem_univ p)) $$ H

/-- The two and the levels. -/
def know : sProp 𝕄 := iprop(records X K ∗ levAts L lv)

instance know_persistent : BI.Persistent (know X K) := by unfold know; infer_instance

/-- What a device owes, whatever it has waited for so far. -/
def owesE (c : Dev nD) (O : CellTallies nD τ sig Unit) : sProp 𝕄 := iprop(∃ W, owes (c : Thread nD τ) O W)

/-- What it takes to start copy `t`; -/
def kit (t : Tr) (c : Dev nD) : sProp 𝕄 :=
  iprop(atPos ER (cell false t c) 0 ∅ 0 ∗ dutyTok ER (cell false t c) 0 0 ∗ dutyTok ER (cell true t (peer t c)) 0 0)
/-- to wait for its departure (`false`) or for the arrival of the copy `t` that comes (`true`). -/
def ready (b : Bool) (t : Tr) (c : Dev nD) : sProp 𝕄 :=
  iprop(atPos ER (cell b t c) 0 ∅ 0 ∗ cred (tallyAt (cell b t c) () N))
/-- What it takes to pass the barrier: to wait at it, -/
def readyBar (c : Dev nD) : sProp 𝕄 := iprop(atPos ER (barCell c) 0 ∅ 0 ∗ cred (tallyAt (barCell c) () 3))

omit [FloatOps F] in
/-- Rows that hold `f` hold any contents equal to it on them. -/
theorem held_congr (c : Dev nD) (lo n : ℕ) (q : PosShare TreeShare) (f g : OutC F) (h : ∀ j ∈ rows lo n, f j = g j) :
    (held c lo n q f : sProp 𝕄) ⊢ held c lo n q g := Entails.of_eq (pointsTo_congr h)

/-- A chunk counts the same wherever it lies. -/
theorem chunk_credit (off : Fin 2 → ℕ) (inb : ∀ a, off a + S128x512.size a ≤ S4096x512.size a) : (chunkM off inb).view.dmaCredit = N := rfl
theorem chunk_amount (off : Fin 2 → ℕ) (inb : ∀ a, off a + S128x512.size a ≤ S4096x512.size a) (s : DmaSem sig) :
    (chunkM off inb).view.amount (.dma s) = N := rfl

/-! ## The barrier -/

/-- Signalling the partner in direction `d`, handing over rows of the own result. -/
theorem step_signal (c n : Dev nD) (d : Fin 3) (hn : n = pr d c) (l : List Due) (a : ℕ) (ha : a = 1)
    {α : Type} {Q : α → sProp 𝕄} {k : PUnit → Prog (TpuEff nD τ sig (Elt F) Λ₀ .tc) α} :
    know X K
      ⊢ iprop(dutyTok ER (barCell (pr d c)) 0 d -∗ barPay d (pr d c) -∗ owesE c (owed c (.inl d :: l)) -∗ (owesE c (owed c l) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) barS a) k) Q) := by
  subst hn; subst ha
  unfold know owesE
  iintro ⟨#HR, -⟩ Htok Hpay ⟨%W, HO⟩ Hk
  iapply (Rounds.wp_signal 𝒱₀ ER (sched X) (c : Thread nD τ) none (dst := (pr d c : Thread nD τ)) (κ := K (pr d c, .inl ()))
      (d := d) (by rw [duties_bar]; exact Finset.mem_univ _) (amount_bar X (pr d c) d) () (owed c l) rfl) $$ [HO Htok Hpay]
  · isplitr; · iapply (records_inv X K (pr d c, .inl ())); iexact HR
    isplitl [HO]; · iexact HO
    isplitl [Htok]; · iexact Htok
    isplitl [Hpay]; · rw [payload_bar]; iexact Hpay
    iapply (records_reached X K (pr d c, .inl ())); iexact HR
  iintro HO
  iapply Hk
  iexists W; iexact HO

/-- Waiting for the three partners at the barrier, which hand over the rows this device's copies write. -/
theorem step_barrier (c : Dev nD) (l : List Due) (hl : ∀ x ∈ l, 1 < lvDue x) (a : ℕ) (ha : a = 3)
    {α : Type} {Q : α → sProp 𝕄} {k : PUnit → Prog (TpuEff nD τ sig (Elt F) Λ₀ .tc) α} :
    know X K
      ⊢ iprop(readyBar c -∗ owesE c (owed c l) -∗ ((owesE c (owed c l) ∗ semVal (barCell c) 0 ∗ barPay 0 c ∗ barPay 1 c ∗ barPay 2 c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  unfold know owesE readyBar
  iintro ⟨#HR, #Hlev⟩ ⟨Hat, Hc⟩ ⟨%W, HO⟩ Hk
  iapply (Rounds.wp_wait_rest_token 𝒱₀ ER (sched X) (c : Thread nD τ) none (κ := K (c, .inl ()))
      (wpE_semWait_eq 𝒱₀ (c : Thread nD τ) none Set.univ) (Set.mem_univ _) () (O := owed c l) (W := W) (R := 0) (m := 0) (T := ∅)
      (by rw [expect_bar])) $$ [Hc HO Hat]
  · isplitr; · iapply (records_inv X K (c, .inl ())); iexact HR
    isplitl [Hc]; · iexact Hc
    isplitl [HO]; · iexact HO
    isplitr
    · iapply (mayWait c (.reg barS) l (fun x hx => by
        have : lv (barCell c) () = 1 := by unfold lv; rw [kind_bar]; rfl
        rw [this]; exact hl x hx)); iexact Hlev
    iexact Hat
  iintro ⟨HO, Hat, -, Hpay⟩
  ihave Hp := (Entails.of_eq (rest_bar X c)) $$ Hpay
  imod (Rounds.cell_close ER (sched X) (Set.mem_univ (K (c, .inl ()))) (fun h => h) (R := 0 + 1) (duties_later X (barCell c))) $$ [Hat] with Hz
  · isplitr; · iapply (records_inv X K (c, .inl ())); iexact HR
    iexact Hat
  iapply Hk
  isplitl [HO]; · iexists _; iexact HO
  isplitl [Hz]; · iexact Hz
  iexact Hp

/-! ## A quarter of the own input -/

/-- Loading a quarter of the input, loading (in vain) the rows it goes to, storing it there. -/
theorem step_quarter (c : Dev nD) (i : Fin 4) (offX offO : Fin 2 → ℕ) (hX : offX = ![quartX i c, 0]) (hO : offO = ![quart i c, 0])
    (inbX : ∀ a, offX a + S512x512.size a ≤ S2048x512.size a) (inbO : ∀ a, offO a + S512x512.size a ≤ S4096x512.size a)
    (p : (S512x512.Idx → Elt F .bf16) → (S512x512.Idx → Elt F .bf16)) (hp : ∀ v, p v = v) (f : OutC F)
    {hl : xM.view.LoadsAt (Rect.unit (s := S2048x512) offX S512x512.size inbX).toLoadRect}
    {hl' : oM.view.LoadsAt (Rect.unit (s := S4096x512) offO S512x512.size inbO).toLoadRect}
    {hx : (oM.access (Rect.unit (s := S4096x512) offO S512x512.size inbO)).Stores Finset.univ}
    {hm : (Finset.univ : Finset S512x512.Idx) = Finset.univ ∨ ∀ a, (Rect.unit (s := S4096x512) offO S512x512.size inbO).stride a = 1}
    {α : Type} {Q : α → sProp 𝕄} {k : PUnit → Prog (TpuEff nD τ sig (Elt F) Λ₀ .tc) α} :
    (((c : Thread nD τ).loc cc0_stg0_0) ↦{fullShare} X c)
      ⊢ iprop(held c (quart i c) 512 fullShare f -∗ (((((c : Thread nD τ).loc cc0_stg0_0) ↦{fullShare} X c) ∗ held c (quart i c) 512 fullShare (outAt X c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load xM (Rect.unit (s := S2048x512) offX S512x512.size inbX).toLoadRect hl) fun v =>
                .op (.load oM (Rect.unit (s := S4096x512) offO S512x512.size inbO).toLoadRect hl') fun _ =>
                  .op (.store oM (Rect.unit (s := S4096x512) offO S512x512.size inbO) (p v) Finset.univ hx hm) k) Q) := by
  subst hX; subst hO
  iintro Hx Ho Hk
  iapply (wp_load 𝒱₀ (c : Thread nD τ) none Set.univ (m := xM) (Finset.subset_univ _)) $$ Hx; iintro Hx
  iapply (wp_load_rect 𝒱₀ (c : Thread nD τ) none Set.univ (m := oM) (r := Rect.unit (s := S4096x512) ![quart i c, 0] S512x512.size inbO)
    (S := rows (quart i c) 512) (by rw [quarter_set])) $$ Ho; iintro Ho
  iapply (wp_store 𝒱₀ (c : Thread nD τ) none Set.univ (m := oM) (r := Rect.unit (s := S4096x512) ![quart i c, 0] S512x512.size inbO)
    (Mk := Finset.univ) (S := rows (quart i c) 512) (by rw [View.setOn_univ, quarter_set])) $$ Ho; iintro Ho
  rw [hp]
  iapply Hk
  isplitl [Hx]; · iexact Hx
  iapply (held_congr c (quart i c) 512 fullShare _ (outAt X c) (store_quarter X i c inbO inbX f)) $$ Ho

/-! ## Remote copies -/

/-- Starting copy `t`: its rows at their final contents go out, the due is paid. -/
theorem step_send (c n : Dev nD) (t : Tr) (hn : n = peer t c) (off : Fin 2 → ℕ) (hoff : off = ![src t c, 0]) (l : List Due)
    (sS sR : DmaSem sig) (hS : sS = sem false t) (hR : sR = sem true t)
    (inb inb' : ∀ a, off a + S128x512.size a ≤ S4096x512.size a)
    {hsc : (chunkM off inb').view.ref.isScScratch = false} {hsrc : (chunkM off inb).view.WordExact} {hdst : (chunkM off inb').view.WordExact}
    {hsem : DmaTarget.Typed .vmem (.dma sR) (.remote (Dev.tc n : Thread nD τ) (chunkM off inb') (.dma sS) hsc)}
    {α : Type} {Q : α → sProp 𝕄} {k : PUnit → Prog (TpuEff nD τ sig (Elt F) Λ₀ .tc) α} :
    know X K
      ⊢ iprop(kit t c -∗ sendPay X t c -∗ gift t c -∗ owesE c (owed c (.inr t :: l)) -∗ ((ready false t c ∗ owesE c (owed c l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (chunkM off inb) (.remote (Dev.tc n : Thread nD τ) (chunkM off inb') (.dma sS) hsc) (.dma sR) hsrc hdst hsem) k) Q) := by
  subst hn; subst hoff; subst hS; subst hR
  unfold know kit sendPay gift owesE ready
  iintro ⟨#HR, -⟩ ⟨Hat, HtS, HtR⟩ Hsrc ⟨%fd, Hdst⟩ ⟨%W, HO⟩ Hk
  ihave Hsrc := (show (held c (src t c) 128 (share t) (outAt X c) : sProp 𝕄) ⊢
    ((chunkM ![src t c, 0] inb).view.loc (c : Thread nD τ) ↦[(chunkM ![src t c, 0] inb).view.set]{share t} outAt X c) from
      Entails.of_eq (by rw [chunk_set])) $$ Hsrc
  ihave Hdst := (show (held (peer t c) (src t c) 128 fullShare fd : sProp 𝕄) ⊢
    ((chunkM ![src t c, 0] inb').view.loc (peer t c : Thread nD τ) ↦[(chunkM ![src t c, 0] inb').view.set]{fullShare} fd) from
      Entails.of_eq (by rw [chunk_set])) $$ Hdst
  have hp₁ : ((chunkM ![src t c, 0] inb).view.loc (c : Thread nD τ) ↦[(chunkM ![src t c, 0] inb).view.set]{share t} outAt X c)
      ⊢ (sched X).payload (cell false t c) 0 0 := by
    rw [payload_send, chunk_set]; unfold sendPay; exact BI.Entails.refl _
  have hp₂ : ((chunkM ![src t c, 0] inb').view.loc (peer t c : Thread nD τ) ↦[(chunkM ![src t c, 0] inb').view.set]{fullShare}
        ((chunkM ![src t c, 0] inb').view.write (Elt F) fd ((chunkM ![src t c, 0] inb).view.read (Elt F) (outAt X c)) Finset.univ))
      ⊢ (sched X).payload (cell true t (peer t c)) 0 0 := by
    rw [payload_recv, chunk_set]; unfold recvPay dst; rw [peer_peer]
    exact held_congr (peer t c) (src t c) 128 fullShare _ (outAt X (peer t c)) (copy_chunk X t c inb' inb fd)
  have hd₁ : (0 : Fin 3) ∈ (sched X).duties (cell false t c) 0 := by rw [duties_cell]; exact Finset.mem_singleton_self _
  have hd₂ : (0 : Fin 3) ∈ (sched X).duties (cell true t (peer t c)) 0 := by rw [duties_cell]; exact Finset.mem_singleton_self _
  have hO : owed c (.inr t :: l) = owed c l + tallyAt (cell true t (peer t c)) () N := rfl
  have hr : τ.routes (c : Thread nD τ) (peer t c : Thread nD τ) = true := by routes
  have H := Rounds.wp_send_pointsTo (Q := Q) (k := k) (defs := defs₀ (F := F)) (Γ := PendingWaitsCtx.empty) (Es := Set.univ)
      𝒱₀ ER (sched X) (c : Thread nD τ) none
      (κ₁ := K (c, .inr (false, t))) (κ₂ := K (peer t c, .inr (true, t)))
      (src := chunkM ![src t c, 0] inb) (dst := chunkM ![src t c, 0] inb') (c' := (peer t c : Thread nD τ))
      (sS := .dma (sem false t)) (sem := .dma (sem true t)) (hsc := hsc) (hsrc := hsrc) (hdst := hdst) (hsem := hsem)
      (r₁ := 0) (r₂ := 0) (d₁ := 0) (d₂ := 0) (fd := fd) hd₁ hd₂
      () () N (chunk_amount _ inb' _) (amount_cell X false t c 0) (amount_cell X true t (peer t c) 0) (owed c l) hO (W := W) hp₁ hp₂ hr
  iapply H $$ [Hsrc Hdst HO HtS HtR]
  · isplitr; · iapply (records_inv X K (c, .inr (false, t))); iexact HR
    isplitr; · iapply (records_inv X K (peer t c, .inr (true, t))); iexact HR
    isplitl [Hsrc]; · iexact Hsrc
    isplitl [Hdst]; · iexact Hdst
    isplitl [HO]; · iexact HO
    isplitl [HtS]; · iexact HtS
    isplitr; · iapply (records_reached X K (c, .inr (false, t))); iexact HR
    isplitl [HtR]; · iexact HtR
    iapply (records_reached X K (peer t c, .inr (true, t))); iexact HR
  iintro ⟨Hc, HO⟩
  iapply Hk
  isplitl [Hat Hc]
  · isplitl [Hat] <;> iassumption
  iexists W; iexact HO

/-- Waiting for a copy's departure or arrival: its rows come, and the semaphore is done with. -/
theorem step_wait (c : Dev nD) (b : Bool) (t : Tr) (l : List Due) (hl : ∀ x ∈ l, lvOf (some (.inr (b, t))) < lvDue x)
    (s : DmaSem sig) (hs : s = sem b t) (P : sProp 𝕄) (hP : pay X c 0 (some (.inr (b, t))) = P) (off off' : Fin 2 → ℕ) (inb : ∀ a, off a + S128x512.size a ≤ S4096x512.size a)
    (inb' : ∀ a, off' a + S128x512.size a ≤ S4096x512.size a)
    {h₁ : (chunkM off inb).view.WordExact} {h₂ : (chunkM off' inb').view.WordExact}
    {α : Type} {Q : α → sProp 𝕄} {k : PUnit → Prog (TpuEff nD τ sig (Elt F) Λ₀ .tc) α} :
    know X K
      ⊢ iprop(ready b t c -∗ owesE c (owed c l) -∗ ((owesE c (owed c l) ∗ semVal (cell b t c) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 s (chunkM off inb) (chunkM off' inb') h₁ h₂) k) Q) := by
  subst hs hP
  unfold know owesE ready
  iintro ⟨#HR, #Hlev⟩ ⟨Hat, Hc⟩ ⟨%W, HO⟩ Hk
  iapply (Rounds.wp_wait_rest_token 𝒱₀ ER (sched X) (c : Thread nD τ) none (κ := K (c, .inr (b, t))) (sm := .dma (sem b t)) (k' := (chunkM off' inb').view.dmaCredit)
      (wpE_waitDma2_eq 𝒱₀ (c : Thread nD τ) none Set.univ) (Set.mem_univ _) () (O := owed c l) (W := W) (R := 0) (m := 0) (T := ∅)
      (by rw [Nat.zero_add, expect_cell, chunk_credit])) $$ [Hc HO Hat]
  · isplitr; · iapply (records_inv X K (c, .inr (b, t))); iexact HR
    isplitl [Hc]; · rw [chunk_credit]; iexact Hc
    isplitl [HO]; · iexact HO
    isplitr
    · iapply (mayWait c (.dma (sem b t)) l (fun x hx => by
        have : lv (cell b t c) () = lvOf (some (.inr (b, t))) := by unfold lv; rw [kind_cell]
        rw [this]; exact hl x hx)); iexact Hlev
    iexact Hat
  iintro ⟨HO, Hat, -, Hpay⟩
  imod (Rounds.cell_close ER (sched X) (Set.mem_univ (K (c, .inr (b, t)))) (fun h => h) (R := 0 + 1) (duties_later X (cell b t c))) $$ [Hat] with Hz
  · isplitr; · iapply (records_inv X K (c, .inr (b, t))); iexact HR
    iexact Hat
  iapply Hk
  isplitl [HO]; · iexists _; iexact HO
  isplitl [Hz]; · iexact Hz
  iapply (Entails.of_eq (show bigSep ((sched X).duties (cell b t c) 0 \ ∅) (fun d => (sched X).payload (cell b t c) 0 d)
      = pay X c 0 (some (.inr (b, t))) from by
    match b with
    | false => exact rest_send X t c
    | true => exact rest_recv X t c)) $$ Hpay

end Cert.AllGather

end
-- ==== Proof.Hold.lean ====
/-
# Cutting the result up and putting it together again

The rows of a device's result as they pass from hand to hand: the whole result is the four quarters the device writes
itself and the sixteen chunks that arrive; the first quarter is the four chunks the copies along `z` read; a chunk that
came along `z` is lent out in two halves; four more chunks are passed on whole.
-/
module

public import proofs.«01_k».proof.Proof.Steps

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable (X : Dev nD → InC F)

/-! ## Conjunctions over four and sixteen -/

theorem sep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem sep_tr (Φ : Tr → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-! ## The whole result -/

/-- The result is its twenty pieces. -/
theorem whole_pieces (c : Dev nD) (f : OutC F) :
    (((c : Thread nD τ).loc cc0_stg1_0) ↦{fullShare} f : sProp 𝕄)
      = iprop((bigSep Finset.univ fun k : Fin 4 => held c (quart k c) 512 fullShare f)
          ∗ bigSep Finset.univ fun t : Tr => held c (dst t c) 128 fullShare f) := by
  have h := pointsTo_biUnion (Ix := Unit) (Name := ℕ) (U := UU) (Lvl := ℕ) (Val := Elt F) (ℓ := (c : Thread nD τ).loc cc0_stg1_0) (q := fullShare) (f := f)
    Finset.univ (piece c) (fun t _ t' _ h => piece_disjoint c t t' h)
  rw [piece_union, BI.bigSep_univ_sum] at h
  exact h

/-- The first quarter is the four chunks that go along `z`. -/
theorem quarter_chunks (c : Dev nD) :
    (held c (quart 0 c) 512 fullShare (outAt X c) : sProp 𝕄)
      = iprop(sendPay X 0 c ∗ sendPay X 1 c ∗ sendPay X 2 c ∗ sendPay X 3 c) := by
  have h := pointsTo_biUnion (Ix := Unit) (Name := ℕ) (U := UU) (Lvl := ℕ) (Val := Elt F) (ℓ := (c : Thread nD τ).loc cc0_stg1_0) (q := fullShare) (f := outAt X c)
    Finset.univ (fun r : Fin 4 => rows (quart 0 c + 128 * r.val) 128) (fun t _ t' _ h => chunks_disjoint _ t t' h)
  rw [chunks_union, sep_fin4, ← src_z 0 c, ← src_z 1 c, ← src_z 2 c, ← src_z 3 c] at h
  exact h

/-! ## Passing chunks on -/

/-- A chunk that came along `z` is two halves, one for the copy along `x` and one for the copy along `y`. -/
theorem lend (c : Dev nD) (r : Fin 4) (t t₁ t₂ : Tr) (h : t = Fin.castLE (by decide) r ∧ t₁ = Fin.castLE (by decide) r + 4 ∧ t₂ = Fin.castLE (by decide) r + 8)
    (h₁ : share t₁ = fullShare.left) (h₂ : share t₂ = fullShare.right) :
    recvPay X t c ⊣⊢ (iprop(sendPay X t₁ c ∗ sendPay X t₂ c) : sProp 𝕄) := by
  obtain ⟨rfl, rfl, rfl⟩ := h
  unfold recvPay sendPay
  rw [h₁, h₂, (src_x r c).1, (src_x r c).2]
  exact pointsTo_share (PosShare.mem_left_op_right fullShare)

/-- Chunks 0, 1 that came along `y` are the ones passed on along `x`; -/
theorem pass_x (c : Dev nD) (k : Fin 2) (t t' : Tr) (h : t = Fin.castLE (by decide) k + 8 ∧ t' = Fin.castLE (by decide) k + 12) (hs : share t' = fullShare) :
    (recvPay X t c : sProp 𝕄) = sendPay X t' c := by
  obtain ⟨rfl, rfl⟩ := h
  unfold recvPay sendPay
  rw [hs, src_xr]

/-- chunks 2, 3 that came along `x` are the ones passed on along `y`. -/
theorem pass_y (c : Dev nD) (k : Fin 2) (t t' : Tr) (h : t = Fin.castLE (by decide) k + 6 ∧ t' = Fin.castLE (by decide) k + 14) (hs : share t' = fullShare) :
    (recvPay X t c : sProp 𝕄) = sendPay X t' c := by
  obtain ⟨rfl, rfl⟩ := h
  unfold recvPay sendPay
  rw [hs, src_yr]

/-! ## At the barrier -/

/-- A chunk that copy `t` of the partner writes, given to that partner. -/
theorem give (t : Tr) (c : Dev nD) (d : Fin 3) (h : dir t = d) (f : OutC F) :
    held c (dst t c) 128 fullShare f ⊢ (gift t (pr d c) : sProp 𝕄) := by
  subst h
  unfold gift
  show held c (src t (peer t c)) 128 fullShare f ⊢ iprop(∃ f : OutC F, held (peer t (peer t c)) (src t (peer t c)) 128 fullShare f)
  rw [peer_peer]
  iintro H
  iexists f; iexact H

/-- All the chunks that arrive, given away: what the three partners are handed at the barrier. -/
theorem give_all (c : Dev nD) (f : OutC F) :
    (bigSep Finset.univ fun t : Tr => held c (dst t c) 128 fullShare f)
      ⊢ (iprop(barPay 0 (pr 0 c) ∗ barPay 1 (pr 1 c) ∗ barPay 2 (pr 2 c)) : sProp 𝕄) := by
  refine (bigSep_mono (Ψ := fun t : Tr => (gift t (pr (dir t) c) : sProp 𝕄)) fun t _ => give t c (dir t) rfl f).trans ?_
  rw [sep_tr, barPay_z, barPay_x, barPay_y]
  show iprop(gift 0 (pr 0 c) ∗ gift 1 (pr 0 c) ∗ gift 2 (pr 0 c) ∗ gift 3 (pr 0 c)
    ∗ gift 4 (pr 1 c) ∗ gift 5 (pr 1 c) ∗ gift 6 (pr 1 c) ∗ gift 7 (pr 1 c)
    ∗ gift 8 (pr 2 c) ∗ gift 9 (pr 2 c) ∗ gift 10 (pr 2 c) ∗ gift 11 (pr 2 c)
    ∗ gift 12 (pr 1 c) ∗ gift 13 (pr 1 c) ∗ gift 14 (pr 2 c) ∗ gift 15 (pr 2 c)) ⊢ _
  iintro ⟨H0, H1, H2, H3, H4, H5, H6, H7, H8, H9, H10, H11, H12, H13, H14, H15⟩
  iframe

end Cert.AllGather

end
-- ==== Proof.Body.lean ====
/-
# The body of the kernel

From its semaphores, its input and its result (holding anything), the body of device `c` runs to the end, every
semaphore spent, the input as it was, the result holding `outAt X c`. The proof follows the program, one step lemma for
each operation.
-/
module

public import proofs.«01_k».proof.Proof.Hold

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → InC F) (K : Dev nD × CI → ℕ)

/-- What of the semaphores device `c` starts with: the barrier, one unit to pay to each partner, what it takes to start
    its sixteen copies and to await the sixteen that come. -/
def own (c : Dev nD) : sProp 𝕄 :=
  iprop(readyBar c
    ∗ (dutyTok ER (barCell (pr 0 c)) 0 0 ∗ dutyTok ER (barCell (pr 1 c)) 0 1 ∗ dutyTok ER (barCell (pr 2 c)) 0 2)
    ∗ (bigSep Finset.univ fun t : Tr => kit t c)
    ∗ bigSep Finset.univ fun t : Tr => ready true t c)

/-- What it ends with: all its semaphores at zero. -/
def spent (c : Dev nD) : sProp 𝕄 :=
  iprop(semVal (barCell c) 0 ∗ (bigSep Finset.univ fun t : Tr => semVal (cell false t c) 0)
    ∗ bigSep Finset.univ fun t : Tr => semVal (cell true t c) 0)

def bodyPre (c : Dev nD) : sProp 𝕄 :=
  iprop(know X K ∗ own c ∗ owesE c (owed c D0)
    ∗ (((c : Thread nD τ).loc cc0_stg0_0) ↦{fullShare} X c) ∗ ∃ f : OutC F, ((c : Thread nD τ).loc cc0_stg1_0) ↦{fullShare} f)

def bodyPost (c : Dev nD) : sProp 𝕄 :=
  iprop(spent c ∗ owesE c 0
    ∗ (((c : Thread nD τ).loc cc0_stg0_0) ↦{fullShare} X c) ∗ (((c : Thread nD τ).loc cc0_stg1_0) ↦{fullShare} outAt X c))

/-- Storing what was loaded stores it unchanged. -/
theorem pay_id (v : Vec F S512x512 .bf16) : k0_pay1 v = v ∧ k0_pay2 v = v ∧ k0_pay3 v = v ∧ k0_pay4 v = v :=
  ⟨shapeCast_self _ _, shapeCast_self _ _, shapeCast_self _ _, shapeCast_self _ _⟩

set_option maxHeartbeats 4000000 in
/-- The body runs from `bodyPre` to `bodyPost`. -/
theorem sound_body (c : Dev nD) (Kt : PUnit → sProp 𝕄) :
    iprop(bodyPre X K c ∗ (bodyPost X c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1 cc0_scratch2 cc0_scratch3 cc0_scratch4 cc0_scratch5 cc0_scratch6 cc0_scratch7 cc0_scratch8 cc0_scratch9) Kt := by
  simp only [cc0_body_eq_skeleton]; unfold cc0_body_skel
  unfold bodyPre own bodyPost spent
  rw [sep_tr, sep_tr]
  iintro ⟨⟨#HK, ⟨HB, ⟨HT0, HT1, HT2⟩, ⟨HK0, HK1, HK2, HK3, HK4, HK5, HK6, HK7, HK8, HK9, HK10, HK11, HK12, HK13, HK14, HK15⟩, ⟨HV0, HV1, HV2, HV3, HV4, HV5, HV6, HV7, HV8, HV9, HV10, HV11, HV12, HV13, HV14, HV15⟩⟩, HO, Hx, ⟨%f, Hout⟩⟩, Hk⟩
  -- the result is cut into its pieces, the chunks that will arrive are given away at the barrier
  ihave Hout := (Entails.of_eq (whole_pieces c f)) $$ Hout
  icases Hout with ⟨Hq, Hch⟩
  ihave Hq := (Entails.of_eq (sep_fin4 _)) $$ Hq
  icases Hq with ⟨Hq0, Hq1, Hq2, Hq3⟩
  ihave Hch := (give_all c f) $$ Hch
  icases Hch with ⟨Hg0, Hg1, Hg2⟩
  simp only [k0_part1_eq_skeleton]; unfold k0_part1_skel
  simp only [semSignalWord, semWaitWord, Prog.lift, Prog.bind_op, Prog.bind_ret, Prog.pure_eq_ret, wp_deviceId]
  simp only [k0_part2_eq_skeleton]; unfold k0_part2_skel
  simp only [semSignalWord, semWaitWord, Prog.lift, Prog.bind_op, Prog.bind_ret, Prog.pure_eq_ret, wp_deviceId]
  iapply (step_signal X K c _ 0 (Fin.ext (dev_z c).1) D1 _ rfl) $$ HK HT0 Hg0 HO; iintro HO
  iapply (step_signal X K c _ 1 (Fin.ext (dev_x c).1) D2 _ rfl) $$ HK HT1 Hg1 HO; iintro HO
  iapply (step_signal X K c _ 2 (Fin.ext (dev_y c).1) D3 _ rfl) $$ HK HT2 Hg2 HO; iintro HO
  iapply (step_barrier X K c D3 (by decide) _ rfl) $$ HK HB HO; iintro ⟨HO, HzB, Hg0, Hg1, Hg2⟩
  ihave Hg0 := (Entails.of_eq (barPay_z c)) $$ Hg0; ihave Hg1 := (Entails.of_eq (barPay_x c)) $$ Hg1; ihave Hg2 := (Entails.of_eq (barPay_y c)) $$ Hg2
  icases Hg0 with ⟨HG0, HG1, HG2, HG3⟩; icases Hg1 with ⟨HG4, HG5, HG6, HG7, HG12, HG13⟩; icases Hg2 with ⟨HG8, HG9, HG10, HG11, HG14, HG15⟩
  -- the own quarter
  iapply (step_quarter X c 0 _ _ (off1_eq c) (off2_eq c) _ _ k0_pay1 (fun v => (pay_id v).1) f) $$ Hx Hq0; iintro ⟨Hx, Hq0⟩
  ihave Hq0 := (Entails.of_eq (quarter_chunks X c)) $$ Hq0
  icases Hq0 with ⟨HQ0, HQ1, HQ2, HQ3⟩
  simp only [k0_part3_eq_skeleton]; unfold k0_part3_skel
  simp only [semSignalWord, semWaitWord, Prog.lift, Prog.bind_op, Prog.bind_ret, Prog.pure_eq_ret, wp_deviceId]
  iapply (step_send X K c _ 0 (Fin.ext (dev_z c).2.1) _ (off3_eq 0 c) D4 _ _ rfl rfl _ _) $$ HK HK0 HQ0 HG0 HO; iintro ⟨HS0, HO⟩
  iapply (step_send X K c _ 1 (Fin.ext (dev_z c).2.2.1) _ (off3_eq 1 c) D5 _ _ rfl rfl _ _) $$ HK HK1 HQ1 HG1 HO; iintro ⟨HS1, HO⟩
  iapply (step_send X K c _ 2 (Fin.ext (dev_z c).2.2.2.1) _ (off3_eq 2 c) D6 _ _ rfl rfl _ _) $$ HK HK2 HQ2 HG2 HO; iintro ⟨HS2, HO⟩
  simp only [k0_part4_eq_skeleton]; unfold k0_part4_skel
  simp only [semSignalWord, semWaitWord, Prog.lift, Prog.bind_op, Prog.bind_ret, Prog.pure_eq_ret, wp_deviceId]
  iapply (step_send X K c _ 3 (Fin.ext (dev_z c).2.2.2.2) _ (off3_eq 3 c) D7 _ _ rfl rfl _ _) $$ HK HK3 HQ3 HG3 HO; iintro ⟨HS3, HO⟩
  iapply (step_quarter X c 1 _ _ (off4_eq 0 c) (off5_eq 0 c) _ _ k0_pay2 (fun v => (pay_id v).2.1) f) $$ Hx Hq1; iintro ⟨Hx, Hq1⟩
  simp only [k0_part5_eq_skeleton]; unfold k0_part5_skel
  simp only [semSignalWord, semWaitWord, Prog.lift, Prog.bind_op, Prog.bind_ret, Prog.pure_eq_ret, wp_deviceId]
  iapply (step_quarter X c 2 _ _ (off4_eq 1 c) (off5_eq 1 c) _ _ k0_pay3 (fun v => (pay_id v).2.2.1) f) $$ Hx Hq2; iintro ⟨Hx, Hq2⟩
  iapply (step_quarter X c 3 _ _ (off4_eq 2 c) (off5_eq 2 c) _ _ k0_pay4 (fun v => (pay_id v).2.2.2) f) $$ Hx Hq3; iintro ⟨Hx, Hq3⟩
  simp only [k0_part6_eq_skeleton]; unfold k0_part6_skel
  simp only [semSignalWord, semWaitWord, Prog.lift, Prog.bind_op, Prog.bind_ret, Prog.pure_eq_ret, wp_deviceId]
  iapply (step_wait X K c true 0 D7 (by decide) _ rfl (recvPay X 0 c) rfl _ _ _ _) $$ HK HV0 HO; iintro ⟨HO, Hzv0, HPv0⟩
  ihave HPv0 := (lend X c 0 0 4 8 ⟨rfl, rfl, rfl⟩ rfl rfl).1 $$ HPv0; icases HPv0 with ⟨HQ4, HQ8⟩
  iapply (step_send X K c _ 4 (Fin.ext (dev_x c).2.1) _ (off6_eq 0 c).1 D8 _ _ rfl rfl _ _) $$ HK HK4 HQ4 HG4 HO; iintro ⟨HS4, HO⟩
  iapply (step_send X K c _ 8 (Fin.ext (dev_y c).2.1) _ (off6_eq 0 c).2 D9 _ _ rfl rfl _ _) $$ HK HK8 HQ8 HG8 HO; iintro ⟨HS8, HO⟩
  simp only [k0_part7_eq_skeleton]; unfold k0_part7_skel
  simp only [semSignalWord, semWaitWord, Prog.lift, Prog.bind_op, Prog.bind_ret, Prog.pure_eq_ret, wp_deviceId]
  iapply (step_wait X K c true 1 D9 (by decide) _ rfl (recvPay X 1 c) rfl _ _ _ _) $$ HK HV1 HO; iintro ⟨HO, Hzv1, HPv1⟩
  ihave HPv1 := (lend X c 1 1 5 9 ⟨rfl, rfl, rfl⟩ rfl rfl).1 $$ HPv1; icases HPv1 with ⟨HQ5, HQ9⟩
  iapply (step_send X K c _ 5 (Fin.ext (dev_x c).2.2.1) _ (off6_eq 1 c).1 D10 _ _ rfl rfl _ _) $$ HK HK5 HQ5 HG5 HO; iintro ⟨HS5, HO⟩
  iapply (step_send X K c _ 9 (Fin.ext (dev_y c).2.2.1) _ (off6_eq 1 c).2 D11 _ _ rfl rfl _ _) $$ HK HK9 HQ9 HG9 HO; iintro ⟨HS9, HO⟩
  simp only [k0_part8_eq_skeleton]; unfold k0_part8_skel
  simp only [semSignalWord, semWaitWord, Prog.lift, Prog.bind_op, Prog.bind_ret, Prog.pure_eq_ret, wp_deviceId]
  iapply (step_wait X K c true 2 D11 (by decide) _ rfl (recvPay X 2 c) rfl _ _ _ _) $$ HK HV2 HO; iintro ⟨HO, Hzv2, HPv2⟩
  ihave HPv2 := (lend X c 2 2 6 10 ⟨rfl, rfl, rfl⟩ rfl rfl).1 $$ HPv2; icases HPv2 with ⟨HQ6, HQ10⟩
  iapply (step_send X K c _ 6 (Fin.ext (dev_x c).2.2.2.1) _ (off6_eq 2 c).1 D12 _ _ rfl rfl _ _) $$ HK HK6 HQ6 HG6 HO; iintro ⟨HS6, HO⟩
  iapply (step_send X K c _ 10 (Fin.ext (dev_y c).2.2.2.1) _ (off6_eq 2 c).2 D13 _ _ rfl rfl _ _) $$ HK HK10 HQ10 HG10 HO; iintro ⟨HS10, HO⟩
  simp only [k0_part9_eq_skeleton]; unfold k0_part9_skel
  simp only [semSignalWord, semWaitWord, Prog.lift, Prog.bind_op, Prog.bind_ret, Prog.pure_eq_ret, wp_deviceId]
  iapply (step_wait X K c true 3 D13 (by decide) _ rfl (recvPay X 3 c) rfl _ _ _ _) $$ HK HV3 HO; iintro ⟨HO, Hzv3, HPv3⟩
  ihave HPv3 := (lend X c 3 3 7 11 ⟨rfl, rfl, rfl⟩ rfl rfl).1 $$ HPv3; icases HPv3 with ⟨HQ7, HQ11⟩
  iapply (step_send X K c _ 7 (Fin.ext (dev_x c).2.2.2.2.1) _ (off6_eq 3 c).1 D14 _ _ rfl rfl _ _) $$ HK HK7 HQ7 HG7 HO; iintro ⟨HS7, HO⟩
  iapply (step_send X K c _ 11 (Fin.ext (dev_y c).2.2.2.2.1) _ (off6_eq 3 c).2 D15 _ _ rfl rfl _ _) $$ HK HK11 HQ11 HG11 HO; iintro ⟨HS11, HO⟩
  simp only [k0_part10_eq_skeleton]; unfold k0_part10_skel
  simp only [semSignalWord, semWaitWord, Prog.lift, Prog.bind_op, Prog.bind_ret, Prog.pure_eq_ret, wp_deviceId]
  iapply (step_wait X K c true 8 D15 (by decide) _ rfl (recvPay X 8 c) rfl _ _ _ _) $$ HK HV8 HO; iintro ⟨HO, Hzv8, HPv8⟩
  ihave HQ12 := (Entails.of_eq (pass_x X c 0 8 12 ⟨rfl, rfl⟩ rfl)) $$ HPv8
  iapply (step_send X K c _ 12 (Fin.ext (dev_x c).2.2.2.2.2.1) _ (off7_eq 0 c) D16 _ _ rfl rfl _ _) $$ HK HK12 HQ12 HG12 HO; iintro ⟨HS12, HO⟩
  simp only [k0_part11_eq_skeleton]; unfold k0_part11_skel
  simp only [semSignalWord, semWaitWord, Prog.lift, Prog.bind_op, Prog.bind_ret, Prog.pure_eq_ret, wp_deviceId]
  iapply (step_wait X K c true 9 D16 (by decide) _ rfl (recvPay X 9 c) rfl _ _ _ _) $$ HK HV9 HO; iintro ⟨HO, Hzv9, HPv9⟩
  ihave HQ13 := (Entails.of_eq (pass_x X c 1 9 13 ⟨rfl, rfl⟩ rfl)) $$ HPv9
  iapply (step_send X K c _ 13 (Fin.ext (dev_x c).2.2.2.2.2.2) _ (off7_eq 1 c) D17 _ _ rfl rfl _ _) $$ HK HK13 HQ13 HG13 HO; iintro ⟨HS13, HO⟩
  iapply (step_wait X K c true 6 D17 (by decide) _ rfl (recvPay X 6 c) rfl _ _ _ _) $$ HK HV6 HO; iintro ⟨HO, Hzv6, HPv6⟩
  ihave HQ14 := (Entails.of_eq (pass_y X c 0 6 14 ⟨rfl, rfl⟩ rfl)) $$ HPv6
  simp only [k0_part12_eq_skeleton]; unfold k0_part12_skel
  simp only [semSignalWord, semWaitWord, Prog.lift, Prog.bind_op, Prog.bind_ret, Prog.pure_eq_ret, wp_deviceId]
  iapply (step_send X K c _ 14 (Fin.ext (dev_y c).2.2.2.2.2.1) _ (off8_eq 0 c) D18 _ _ rfl rfl _ _) $$ HK HK14 HQ14 HG14 HO; iintro ⟨HS14, HO⟩
  iapply (step_wait X K c true 7 D18 (by decide) _ rfl (recvPay X 7 c) rfl _ _ _ _) $$ HK HV7 HO; iintro ⟨HO, Hzv7, HPv7⟩
  ihave HQ15 := (Entails.of_eq (pass_y X c 1 7 15 ⟨rfl, rfl⟩ rfl)) $$ HPv7
  simp only [k0_part13_eq_skeleton]; unfold k0_part13_skel
  simp only [semSignalWord, semWaitWord, Prog.lift, Prog.bind_op, Prog.bind_ret, Prog.pure_eq_ret, wp_deviceId]
  iapply (step_send X K c _ 15 (Fin.ext (dev_y c).2.2.2.2.2.2) _ (off8_eq 1 c) D19 _ _ rfl rfl _ _) $$ HK HK15 HQ15 HG15 HO; iintro ⟨HS15, HO⟩
  iapply (step_wait X K c true 4 D19 (by decide) _ rfl (recvPay X 4 c) rfl _ _ _ _) $$ HK HV4 HO; iintro ⟨HO, Hzv4, HPv4⟩
  iapply (step_wait X K c true 10 D19 (by decide) _ rfl (recvPay X 10 c) rfl _ _ _ _) $$ HK HV10 HO; iintro ⟨HO, Hzv10, HPv10⟩
  simp only [k0_part14_eq_skeleton]; unfold k0_part14_skel
  simp only [semSignalWord, semWaitWord, Prog.lift, Prog.bind_op, Prog.bind_ret, Prog.pure_eq_ret, wp_deviceId]
  iapply (step_wait X K c true 12 D19 (by decide) _ rfl (recvPay X 12 c) rfl _ _ _ _) $$ HK HV12 HO; iintro ⟨HO, Hzv12, HPv12⟩
  iapply (step_wait X K c true 14 D19 (by decide) _ rfl (recvPay X 14 c) rfl _ _ _ _) $$ HK HV14 HO; iintro ⟨HO, Hzv14, HPv14⟩
  iapply (step_wait X K c true 5 D19 (by decide) _ rfl (recvPay X 5 c) rfl _ _ _ _) $$ HK HV5 HO; iintro ⟨HO, Hzv5, HPv5⟩
  simp only [k0_part15_eq_skeleton]; unfold k0_part15_skel
  simp only [semSignalWord, semWaitWord, Prog.lift, Prog.bind_op, Prog.bind_ret, Prog.pure_eq_ret, wp_deviceId]
  iapply (step_wait X K c true 11 D19 (by decide) _ rfl (recvPay X 11 c) rfl _ _ _ _) $$ HK HV11 HO; iintro ⟨HO, Hzv11, HPv11⟩
  iapply (step_wait X K c true 13 D19 (by decide) _ rfl (recvPay X 13 c) rfl _ _ _ _) $$ HK HV13 HO; iintro ⟨HO, Hzv13, HPv13⟩
  iapply (step_wait X K c true 15 D19 (by decide) _ rfl (recvPay X 15 c) rfl _ _ _ _) $$ HK HV15 HO; iintro ⟨HO, Hzv15, HPv15⟩
  simp only [k0_part16_eq_skeleton]; unfold k0_part16_skel
  simp only [semSignalWord, semWaitWord, Prog.lift, Prog.bind_op, Prog.bind_ret, Prog.pure_eq_ret, wp_deviceId]
  iapply (step_wait X K c false 0 D19 (by decide) _ rfl (sendPay X 0 c) rfl _ _ _ _) $$ HK HS0 HO; iintro ⟨HO, Hzs0, HPs0⟩
  iapply (step_wait X K c false 1 D19 (by decide) _ rfl (sendPay X 1 c) rfl _ _ _ _) $$ HK HS1 HO; iintro ⟨HO, Hzs1, HPs1⟩
  iapply (step_wait X K c false 2 D19 (by decide) _ rfl (sendPay X 2 c) rfl _ _ _ _) $$ HK HS2 HO; iintro ⟨HO, Hzs2, HPs2⟩
  iapply (step_wait X K c false 3 D19 (by decide) _ rfl (sendPay X 3 c) rfl _ _ _ _) $$ HK HS3 HO; iintro ⟨HO, Hzs3, HPs3⟩
  iapply (step_wait X K c false 4 D19 (by decide) _ rfl (sendPay X 4 c) rfl _ _ _ _) $$ HK HS4 HO; iintro ⟨HO, Hzs4, HPs4⟩
  iapply (step_wait X K c false 8 D19 (by decide) _ rfl (sendPay X 8 c) rfl _ _ _ _) $$ HK HS8 HO; iintro ⟨HO, Hzs8, HPs8⟩
  simp only [k0_part17_eq_skeleton]; unfold k0_part17_skel
  simp only [semSignalWord, semWaitWord, Prog.lift, Prog.bind_op, Prog.bind_ret, Prog.pure_eq_ret, wp_deviceId]
  iapply (step_wait X K c false 5 D19 (by decide) _ rfl (sendPay X 5 c) rfl _ _ _ _) $$ HK HS5 HO; iintro ⟨HO, Hzs5, HPs5⟩
  iapply (step_wait X K c false 9 D19 (by decide) _ rfl (sendPay X 9 c) rfl _ _ _ _) $$ HK HS9 HO; iintro ⟨HO, Hzs9, HPs9⟩
  iapply (step_wait X K c false 6 D19 (by decide) _ rfl (sendPay X 6 c) rfl _ _ _ _) $$ HK HS6 HO; iintro ⟨HO, Hzs6, HPs6⟩
  iapply (step_wait X K c false 10 D19 (by decide) _ rfl (sendPay X 10 c) rfl _ _ _ _) $$ HK HS10 HO; iintro ⟨HO, Hzs10, HPs10⟩
  iapply (step_wait X K c false 7 D19 (by decide) _ rfl (sendPay X 7 c) rfl _ _ _ _) $$ HK HS7 HO; iintro ⟨HO, Hzs7, HPs7⟩
  iapply (step_wait X K c false 11 D19 (by decide) _ rfl (sendPay X 11 c) rfl _ _ _ _) $$ HK HS11 HO; iintro ⟨HO, Hzs11, HPs11⟩
  iapply (step_wait X K c false 12 D19 (by decide) _ rfl (sendPay X 12 c) rfl _ _ _ _) $$ HK HS12 HO; iintro ⟨HO, Hzs12, HPs12⟩
  iapply (step_wait X K c false 13 D19 (by decide) _ rfl (sendPay X 13 c) rfl _ _ _ _) $$ HK HS13 HO; iintro ⟨HO, Hzs13, HPs13⟩
  iapply (step_wait X K c false 14 D19 (by decide) _ rfl (sendPay X 14 c) rfl _ _ _ _) $$ HK HS14 HO; iintro ⟨HO, Hzs14, HPs14⟩
  iapply (step_wait X K c false 15 D19 (by decide) _ rfl (sendPay X 15 c) rfl _ _ _ _) $$ HK HS15 HO; iintro ⟨HO, Hzs15, HPs15⟩
  rw [wp_ret]; imodintro
  -- the pieces together again
  ihave HPv0 := (lend X c 0 0 4 8 ⟨rfl, rfl, rfl⟩ rfl rfl).2 $$ [HPs4 HPs8]
  · isplitl [HPs4] <;> iassumption
  ihave HPv1 := (lend X c 1 1 5 9 ⟨rfl, rfl, rfl⟩ rfl rfl).2 $$ [HPs5 HPs9]
  · isplitl [HPs5] <;> iassumption
  ihave HPv2 := (lend X c 2 2 6 10 ⟨rfl, rfl, rfl⟩ rfl rfl).2 $$ [HPs6 HPs10]
  · isplitl [HPs6] <;> iassumption
  ihave HPv3 := (lend X c 3 3 7 11 ⟨rfl, rfl, rfl⟩ rfl rfl).2 $$ [HPs7 HPs11]
  · isplitl [HPs7] <;> iassumption
  ihave HPv8 := (Entails.of_eq (pass_x X c 0 8 12 ⟨rfl, rfl⟩ rfl).symm) $$ HPs12
  ihave HPv9 := (Entails.of_eq (pass_x X c 1 9 13 ⟨rfl, rfl⟩ rfl).symm) $$ HPs13
  ihave HPv6 := (Entails.of_eq (pass_y X c 0 6 14 ⟨rfl, rfl⟩ rfl).symm) $$ HPs14
  ihave HPv7 := (Entails.of_eq (pass_y X c 1 7 15 ⟨rfl, rfl⟩ rfl).symm) $$ HPs15
  ihave Hq0 := (Entails.of_eq (quarter_chunks X c).symm) $$ [HPs0 HPs1 HPs2 HPs3]
  · isplitl [HPs0]; · iexact HPs0
    isplitl [HPs1]; · iexact HPs1
    isplitl [HPs2] <;> iassumption
  iapply Hk
  rw [whole_pieces, sep_fin4, sep_tr, sep_tr, sep_tr, show (0 : CellTallies nD τ sig Unit) = owed c D19 from rfl]
  simp only [show ∀ t, (held c (dst t c) 128 fullShare (outAt X c) : sProp 𝕄) = recvPay X t c from fun _ => rfl]
  iframe

end Cert.AllGather

end
-- ==== Proof.Ghost.lean ====
/-
# Handing out the semaphores at the launch

At the launch every device holds its own semaphores, at zero, and the duties at them. The semaphores go under their
schedule, for everyone to see; each duty goes to the device that will pay it: a barrier's duty in direction `d` to the
partner in that direction, a copy's arrival to the device the copy comes from. What the devices owe one another is
turned round in the same way into what each may wait for.
-/
module

public import proofs.«01_k».proof.Proof.Body

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable (X : Dev nD → InC F)

/-! ## Conjunctions over a device's semaphores -/

theorem sep_fin3 (Φ : Fin 3 → sProp 𝕄) : bigSep Finset.univ Φ = iprop(Φ 0 ∗ Φ 1 ∗ Φ 2) :=
  bigSep_univ_eq_bigSepL [0, 1, 2] (by decide) (by decide) Φ

theorem sep_copies (Φ : Bool × Tr → sProp 𝕄) : bigSep Finset.univ Φ
    = iprop((bigSep Finset.univ fun t => Φ (false, t)) ∗ bigSep Finset.univ fun t => Φ (true, t)) := by
  rw [bigSep_univ_prod, bigSep_univ_eq_bigSepL [false, true] (by decide) (by decide), bigSepL_cons_cons, bigSepL_singleton]
  rfl

theorem sep_own (Φ : CI → sProp 𝕄) : bigSep Finset.univ Φ
    = iprop(Φ (.inl ()) ∗ (bigSep Finset.univ fun t => Φ (.inr (false, t))) ∗ bigSep Finset.univ fun t => Φ (.inr (true, t))) := by
  rw [bigSep_univ_sum, sep_copies, bigSep_univ_eq_bigSepL [()] (by decide) (by decide), bigSepL_singleton]
  rfl

/-! ## The duties as they lie at the launch, and with those who pay them -/

/-- A duty: at a barrier one for each direction, at a copy's semaphores one. -/
def tokOf : Dev nD × (Fin 3 ⊕ (Bool × Tr)) → GSem nD τ sig × ℕ × Fin 3
  | (c, .inl d) => (barCell c, 0, d)
  | (c, .inr p) => (cell p.1 p.2 c, 0, 0)

theorem tokOf_injective : Function.Injective tokOf := by
  rintro ⟨c, d | p⟩ ⟨c', d' | p'⟩ h
  · have h1 := kcell_injective (a₁ := (c, .inl ())) (a₂ := (c', .inl ())) (congrArg Prod.fst h)
    have h2 : d = d' := congrArg (fun x : GSem nD τ sig × ℕ × Fin 3 => x.2.2) h
    rw [show c = c' from congrArg Prod.fst h1, h2]
  · exact absurd (congrArg Prod.snd (kcell_injective (a₁ := (c, .inl ())) (a₂ := (c', .inr p')) (congrArg Prod.fst h))) (fun e => by cases e)
  · exact absurd (congrArg Prod.snd (kcell_injective (a₁ := (c, .inr p)) (a₂ := (c', .inl ())) (congrArg Prod.fst h))) (fun e => by cases e)
  · have h1 := kcell_injective (a₁ := (c, .inr p)) (a₂ := (c', .inr p')) (congrArg Prod.fst h)
    rw [show c = c' from congrArg Prod.fst h1, show p = p' from Sum.inr.inj (congrArg Prod.snd h1)]

def allCells : Finset (GSem nD τ sig) := Finset.univ.map ⟨kcell, kcell_injective⟩
def allToks : Finset (GSem nD τ sig × ℕ × Fin 3) := Finset.univ.map ⟨tokOf, tokOf_injective⟩

/-- The duties at device `c`'s own semaphores; -/
def duesAt (c : Dev nD) : sProp 𝕄 :=
  iprop((bigSep Finset.univ fun d : Fin 3 => dutyTok ER (barCell c) 0 d)
    ∗ (bigSep Finset.univ fun t : Tr => dutyTok ER (cell false t c) 0 0)
    ∗ bigSep Finset.univ fun t : Tr => dutyTok ER (cell true t c) 0 0)
/-- the duties device `c` pays. -/
def duesOf (c : Dev nD) : sProp 𝕄 :=
  iprop((bigSep Finset.univ fun d : Fin 3 => dutyTok ER (barCell (pr d c)) 0 d)
    ∗ (bigSep Finset.univ fun t : Tr => dutyTok ER (cell false t c) 0 0)
    ∗ bigSep Finset.univ fun t : Tr => dutyTok ER (cell true t (peer t c)) 0 0)

/-- Going to the partner in the direction permutes the (device, direction) pairs. -/
def prAll : Dev nD × Fin 3 ≃ Dev nD × Fin 3 :=
  ⟨fun p => (pr p.2 p.1, p.2), fun p => (pr p.2 p.1, p.2), fun p => by simp only [pr_pr], fun p => by simp only [pr_pr]⟩

/-- Summed over all devices the two are the same duties. -/
theorem dues_dealt : (bigSep Finset.univ fun c : Dev nD => (duesAt c : sProp 𝕄)) = bigSep Finset.univ fun c : Dev nD => duesOf c := by
  have hb : (bigSep Finset.univ fun c : Dev nD => bigSep Finset.univ fun d : Fin 3 => (dutyTok ER (barCell c) 0 d : sProp 𝕄))
      = bigSep Finset.univ fun c : Dev nD => bigSep Finset.univ fun d : Fin 3 => dutyTok ER (barCell (pr d c)) 0 d := by
    rw [← bigSep_univ_prod (fun p : Dev nD × Fin 3 => (dutyTok ER (barCell p.1) 0 p.2 : sProp 𝕄)), bigSep_univ_equiv prAll, bigSep_univ_prod]
    rfl
  have hr : (bigSep Finset.univ fun c : Dev nD => bigSep Finset.univ fun t : Tr => (dutyTok ER (cell true t c) 0 0 : sProp 𝕄))
      = bigSep Finset.univ fun c : Dev nD => bigSep Finset.univ fun t : Tr => dutyTok ER (cell true t (peer t c)) 0 0 := by
    rw [← bigSep_univ_prod (fun p : Dev nD × Tr => (dutyTok ER (cell true p.2 p.1) 0 0 : sProp 𝕄)), bigSep_univ_equiv peerE, bigSep_univ_prod]
    rfl
  unfold duesAt duesOf
  rw [bigSep_sep', bigSep_sep', bigSep_sep', bigSep_sep', hb, hr]

/-! ## What the launch's ghost state gives each device -/

/-- Device `c`'s semaphores' schedules at their start, its places in them, the duties there. -/
def dealt (c : Dev nD) : sProp 𝕄 :=
  iprop((bigSep Finset.univ fun i : CI => roundState ER (sched X) (kcell (c, i)) 0)
    ∗ ((bigSep Finset.univ fun i : CI => atPos ER (kcell (c, i)) 0 ∅ 0) ∗ bigSep Finset.univ fun i : CI => reached ER (kcell (c, i)) 0)
    ∗ duesAt c)

theorem deal : BI.own (ER (initOf allCells allToks)) ⊢ (|==> bigSep Finset.univ (dealt X) : sProp 𝕄) := by
  have hC (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => duesAt c := by
    unfold allToks; rw [bigSep_map, bigSep_univ_prod]
    exact bigSep_congr fun c _ => by rw [bigSep_univ_sum, sep_copies]; rfl
  unfold dealt
  simp only [bigSep_sep']
  iintro H
  imod (Rounds.fund ER (sched X) allCells allToks) $$ H with ⟨H1, H2, H3, H4⟩
  imodintro
  ihave H1 := (Entails.of_eq (hC fun g => roundState ER (sched X) g 0)) $$ H1
  ihave H2 := (Entails.of_eq (hC fun g => reached ER g 0)) $$ H2
  ihave H3 := (Entails.of_eq (hC fun g => atPos ER g 0 ∅ 0)) $$ H3
  ihave H4 := (Entails.of_eq hT) $$ H4
  iframe

/-! ## The global step -/

/-- The kernel's own semaphores: two for each copy. -/
abbrev osem : Bool × Tr → SemLoc sig := fun p => .dma (sem p.1 p.2)

theorem ownSems_eq (c : Dev nD) : (Pipeline.ownSems0 (Ix := Unit) (Name := ℕ) (U := UU) (Lvl := ℕ) (Val := Elt F) (τ := τ) osem c : sProp 𝕄)
    = iprop((bigSep Finset.univ fun t : Tr => semVal (cell false t c) 0) ∗ bigSep Finset.univ fun t : Tr => semVal (cell true t c) 0) := by
  unfold Pipeline.ownSems0; rw [sep_copies]

/-- The barrier is the one semaphore that is not the kernel's own. -/
theorem barSem_eq (c : Dev nD) : (unscopedSems0 c : sProp 𝕄) = semVal (barCell c) 0 := by
  unfold unscopedSems0; rw [bigSep_eq_bigSepL_of_eq [SemLoc.reg barS] (by decide) (by decide)]; rfl

/-- A device puts its semaphores under their schedules. -/
theorem alloc (c : Dev nD) :
    iprop(Pipeline.ownSems0 (Ix := Unit) (Name := ℕ) (U := UU) (Lvl := ℕ) (Val := Elt F) (τ := τ) osem c ∗ unscopedSems0 c ∗ dealt X c)
      ⊢ |={Set.univ}=> iprop((bigSep Finset.univ fun i : CI => iprop(∃ κ : ℕ, cellInv ER (sched X) κ (kcell (c, i))))
          ∗ ((bigSep Finset.univ fun i : CI => atPos ER (kcell (c, i)) 0 ∅ 0) ∗ bigSep Finset.univ fun i : CI => reached ER (kcell (c, i)) 0)
          ∗ duesAt c) := by
  have h : iprop((bigSep Finset.univ fun i : CI => semVal (kcell (c, i)) 0) ∗ bigSep Finset.univ fun i : CI => roundState ER (sched X) (kcell (c, i)) 0)
      ⊢ (|={Set.univ}=> bigSep Finset.univ fun i : CI => iprop(∃ κ : ℕ, cellInv ER (sched X) κ (kcell (c, i))) : sProp 𝕄) := by
    rw [← bigSep_sep']
    exact (bigSep_mono fun i _ => (Rounds.body_intro ER (sched X) (kcell (c, i))).trans inv_alloc).trans (bigSep_fupd _ _)
  rw [ownSems_eq, barSem_eq]
  unfold dealt
  iintro ⟨⟨Hs, Hr⟩, Hb, Hst, Hrest⟩
  imod h $$ [Hs Hr Hb Hst] with Hi
  · isplitr [Hst]
    · rw [sep_own (fun i : CI => (semVal (kcell (c, i)) 0 : sProp 𝕄))]
      isplitl [Hb]; · iexact Hb
      isplitl [Hs]; · iexact Hs
      iexact Hr
    · iexact Hst
  imodintro
  isplitl [Hi]; · iexact Hi
  iexact Hrest

/-- What stays with device `c` alone: its places, and the duties it pays. -/
def mine (c : Dev nD) : sProp 𝕄 := iprop((bigSep Finset.univ fun i : CI => atPos ER (kcell (c, i)) 0 ∅ 0) ∗ duesOf c)

/-- What a device has after the global step. -/
def given (c : Dev nD) : sProp 𝕄 := iprop((∃ K, records X K) ∗ mine c)

/-- All the devices' semaphores together are seen by every device. -/
theorem regroup :
    (bigSep Finset.univ fun c : Dev nD => iprop((bigSep Finset.univ fun i : CI => iprop(∃ κ : ℕ, cellInv ER (sched X) κ (kcell (c, i))))
          ∗ ((bigSep Finset.univ fun i : CI => atPos ER (kcell (c, i)) 0 ∅ 0) ∗ bigSep Finset.univ fun i : CI => reached ER (kcell (c, i)) 0)
          ∗ duesAt c) : sProp 𝕄)
      ⊢ bigSep Finset.univ (given X) := by
  unfold given mine
  simp only [bigSep_sep']
  rw [dues_dealt, ← bigSep_univ_prod (fun p : Dev nD × CI => iprop(∃ κ : ℕ, cellInv ER (sched X) κ (kcell p))),
    ← bigSep_univ_prod (fun p : Dev nD × CI => (reached ER (kcell p) 0 : sProp 𝕄))]
  iintro ⟨HI, ⟨Hat, #HR⟩, Hd⟩
  ihave HK := (BI.bigSep_exists_pi Finset.univ (fun (p : Dev nD × CI) (κ : ℕ) => (cellInv ER (sched X) κ (kcell p) : sProp 𝕄))) $$ HI
  icases HK with ⟨%K, #HI⟩
  isplitr
  · iapply (BI.bigSep_of_persistent Finset.univ (iprop(∃ K, records X K) : sProp 𝕄))
    iexists K
    unfold records
    isplitl; · iexact HI
    iexact HR
  · isplitl [Hat]; · iexact Hat
    iexact Hd

/-- The global step, on all the devices' semaphores at once. -/
theorem glob : (bigSep Finset.univ fun c => iprop(Pipeline.ownSems0 (Ix := Unit) (Name := ℕ) (U := UU) (Lvl := ℕ) (Val := Elt F) (τ := τ) osem c ∗ unscopedSems0 c ∗ dealt X c) : sProp 𝕄)
    ⊢ |={Set.univ}=> bigSep Finset.univ (given X) :=
  ((bigSep_mono fun c _ => alloc X c).trans (bigSep_fupd _ _)).trans (BI.fupd_mono (regroup X))

/-! ## What the devices owe one another, turned round -/

/-- The semaphore of device `c` at which a due is paid by the device that owes it to `c`. -/
def dueHere (c : Dev nD) : Due → GSem nD τ sig
  | .inl _ => barCell c
  | .inr t => cell true t c

/-- What device `c` may wait for when every device owes a list of dues. -/
def due (c : Dev nD) : List Due → sProp 𝕄
  | [] => iprop(emp)
  | x :: l => iprop(due c l ∗ cred (tallyAt (dueHere c x) () (dueAmt x)))

theorem due_one (x : Due) (c : Dev nD) :
    (Pipeline.launchCred (fun d => tallyAt (dueAt d x) () (dueAmt x)) c : sProp 𝕄) ⊢ cred (tallyAt (dueHere c x) () (dueAmt x)) := by
  match x with
  | .inl d => exact Pipeline.launchCred_tallyAt (.reg barS) (pr d) (pr d) (pr_pr d) (pr_pr d) () 1 c
  | .inr t => exact Pipeline.launchCred_tallyAt (.dma (sem true t)) (peer t) (peer t) (peer_peer t) (peer_peer t) () N c

theorem due_all (c : Dev nD) : ∀ l : List Due, (Pipeline.launchCred (fun d => owed d l) c : sProp 𝕄) ⊢ due c l
  | [] => Entails.of_eq (Pipeline.launchCred_zero c)
  | x :: l => (Entails.of_eq (Pipeline.launchCred_add (fun d => owed d l) (fun d => tallyAt (dueAt d x) () (dueAmt x)) c)).trans
      (BIClass.sep_mono (due_all c l) (due_one x c))

/-- Three units at the barrier and every copy's arrival. -/
theorem credits (c : Dev nD) : (Pipeline.launchCred (fun d => owed d D0) c : sProp 𝕄)
    ⊢ iprop(cred (tallyAt (barCell c) () 3) ∗ bigSep Finset.univ fun t : Tr => cred (tallyAt (cell true t c) () N)) := by
  have h3 : iprop(cred (tallyAt (barCell c) () 1) ∗ cred (tallyAt (barCell c) () 1) ∗ cred (tallyAt (barCell c) () 1))
      ⊢ (cred (tallyAt (barCell c) () 3) : sProp 𝕄) := by
    rw [show (tallyAt (barCell c) () 3 : CellTallies nD τ sig Unit) = tallyAt (barCell c) () 1 + (tallyAt (barCell c) () 1 + tallyAt (barCell c) () 1) from by
      rw [tallyAt_add, tallyAt_add]]
    exact (sep_mono_right (cred_add _ _).2).trans (cred_add _ _).2
  refine (due_all c D0).trans ?_
  simp only [due, dueHere, dueAmt]
  rw [sep_tr]
  iintro ⟨⟨⟨⟨⟨⟨⟨⟨⟨⟨⟨⟨⟨⟨⟨⟨⟨⟨⟨-, H15⟩, H14⟩, H13⟩, H12⟩, H11⟩, H7⟩, H10⟩, H6⟩, H9⟩, H5⟩, H8⟩, H4⟩, H3⟩, H2⟩, H1⟩, H0⟩, B2⟩, B1⟩, B0⟩
  isplitl [B0 B1 B2]
  · iapply h3; iframe
  · iframe

/-- What a device has after the global step and what it may wait for: all the body needs of the semaphores. -/
theorem own_intro (c : Dev nD) :
    iprop(mine c ∗ cred (tallyAt (barCell c) () 3) ∗ bigSep Finset.univ fun t : Tr => cred (tallyAt (cell true t c) () N)) ⊢ (own c : sProp 𝕄) := by
  unfold mine duesOf own readyBar kit ready
  rw [sep_own, sep_fin3]
  simp only [bigSep_sep']
  iintro ⟨⟨⟨HaB, HaS, HaR⟩, HtB, HtS, HtR⟩, HcB, HcR⟩
  isplitl [HaB HcB]
  · isplitl [HaB]; · iexact HaB
    iexact HcB
  isplitl [HtB]; · iexact HtB
  isplitl [HaS HtS HtR]
  · isplitl [HaS]; · iexact HaS
    isplitl [HtS]; · iexact HtS
    iexact HtR
  isplitl [HaR]; · iexact HaR
  iexact HcR

end Cert.AllGather

end
-- ==== Proof.Launch.lean ====
/-
# The launch and the run

The kernel is launched once, with one input and one result: the input is brought in whole, the body runs, the result is
written out whole. Its ghost state is dealt as `Ghost.lean` says, its body runs as `Body.lean` says; so the program ends
on every device with the result array at `outAt` of the devices' inputs, the inputs as they were and every semaphore at
zero (`run_main`).
-/
module

public import proofs.«01_k».proof.Proof.Ghost
public import proofs.«01_k».proof.Proof.Gen.KernelIdeal.Points
public import Idealize.ShloMosaic.Lib.Pipeline.CollectiveSegs

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- The memory at the launch. -/
def s₀ : MemSt nD τ sig (Elt F) := ⟨m, fun _ => 0, ρ⟩

/-- The devices' inputs, as brought in for the body. -/
def inputs (c : Dev nD) : InC F := (win0_0.blk (0 : Fin 1)).view.read (Elt F) ((s₀ m ρ).mem ((c : Thread nD τ).loc main_arg0))

/-- What a device's body starts from besides its two buffers; -/
def start (c : Dev nD) : sProp 𝕄 := iprop((∃ K, records (inputs m ρ) K) ∗ own c ∗ levAts L lv)

/-- before and after the body: the two arrays, the two buffers, what is kept aside, what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inputs m ρ c
    | ⟨1, _⟩ => outAt (inputs m ρ) c
  Φ t := match t with
    | ⟨0, _⟩ => start m ρ c
    | ⟨_ + 1, _⟩ => spent c
  q _ := fullShare
  owed t := match t with
    | ⟨0, _⟩ => owed c D0
    | ⟨_ + 1, _⟩ => 0

omit [FloatOps F] in
/-- A whole buffer of contents `g` is the buffer holding some contents equal to `g`. -/
theorem owns_buf (c : Dev nD) (b : Ref sig .tc) (g : b.ty.Contents (Elt F)) :
    (owns (Ix := Unit) (Name := ℕ) (U := UU) (Lvl := ℕ) (c : Thread nD τ) (Memref.whole b) fullShare g : sProp 𝕄)
      = iprop(∃ f : Buf (Elt F) (((c : Dev nD) : Thread nD τ).loc b), ⌜f = g⌝ ∗ (((c : Thread nD τ).loc b) ↦{fullShare} f)) := by
  unfold owns; simp only [Memref.view_whole, View.read_whole, View.set_whole]

/-- The body's obligation in the pipeline's form. -/
theorem body_obligation (c : Dev nD) : BodyObligation (dats (F := F) m ρ 0 c) (defs₀ (F := F)) 𝒱₀ () Set.univ := fun t => by
  obtain rfl := fin_N0 t
  rw [bigSep_W0, bigSep_W0]
  simp only [owns_buf]
  rw [show (dats m ρ 0 c).Φ t0_0.castSucc = start m ρ c from rfl, show (dats m ρ 0 c).Φ t0_0.succ = spent c from rfl]
  unfold start Dat.owesAt Pipeline.owesWithin
  rw [show (dats m ρ 0 c).owed t0_0.castSucc = owed c D0 from rfl, show (dats m ρ 0 c).owed t0_0.succ = 0 from rfl]
  iintro ⟨⟨⟨%K, #HR⟩, Hown, #Hlev⟩, ⟨%W, -, HO⟩, ⟨%d0, %g0, %hg0, Hx⟩, ⟨%d1, %g1, %hg1, Hout⟩⟩
  have hx : g0 = inputs m ρ c := by rw [hg0]; unfold Dat.before; rw [if_pos (fetch0_0 t0_0)]; rfl
  subst hx
  iapply (sound_body (inputs m ρ) K c)
  unfold bodyPre bodyPost know owesE
  isplitl [Hown HO Hx Hout]
  · isplitr
    · isplitl; · iexact HR
      iexact Hlev
    isplitl [Hown]; · iexact Hown
    isplitl [HO]; · iexists W; iexact HO
    isplitl [Hx]; · iexact Hx
    iexists g1; iexact Hout
  iintro ⟨Hsp, ⟨%W', HO⟩, Hx, Hout⟩
  isplitl [Hsp]; · iexact Hsp
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-! ## The launch's side conditions -/

theorem ownSemFacts : Pipeline.OwnSemFacts cfg0.spec osem := by decide +kernel

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

omit [FloatOps F] in
theorem start_intro (c : Dev nD) :
    iprop(Pipeline.unscopedRestP Pipeline.Prefetch.none cfg0.spec c (fun b => m ((c : Thread nD τ).loc b)) ∗ levAts L lv
        ∗ Pipeline.launchCred (fun d => owed d D0) c ∗ prngReg c (ρ c) ∗ given (inputs m ρ) c)
      ⊢ |={Set.univ}=> iprop(start m ρ c ∗ emp) := by
  unfold start given
  iintro ⟨-, Hlev, Hcr, -, HK, Hmine⟩
  ihave Hcr := (credits (F := F) c) $$ Hcr
  icases Hcr with ⟨Hb, Hr⟩
  imodintro
  isplitl
  · isplitl [HK]; · iexact HK
    isplitl [Hmine Hb Hr]
    · iapply (own_intro (F := F) c)
      isplitl [Hmine]; · iexact Hmine
      isplitl [Hb]; · iexact Hb
      iexact Hr
    iexact Hlev
  · iempintro

theorem phi_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨H, -, -⟩
  iexact H

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = spent c from rfl, scopedRest0_eq, ownSems_eq, barSem_eq]
  unfold spent
  iintro ⟨Hb, Hs, Hr⟩
  isplitl [Hb]; · iexact Hb
  isplitl [Hs Hr]
  · isplitl [Hs] <;> iassumption
  iempintro

omit [FloatOps F] in
/-- The pipeline's own waits rank below everything that is owed. -/
theorem mayWait_low (c : Dev nD) (s : DmaSem sig) (h : trOf s = none) : (levAts L lv : sProp 𝕄) ⊢ MayWait (c : Thread nD τ) (.dma s) () (owed c D0) := by
  have h0 : lv ((c : Thread nD τ), .dma s) () = 0 := by
    unfold lv kind; rw [if_pos rfl]; show lvOf ((trOf s).map _) = 0; rw [h]; rfl
  refine mayWait c _ D0 fun x _ => ?_
  rw [h0]
  match x with
  | .inl _ => exact Nat.one_pos
  | .inr t => exact (by decide : ∀ t : Tr, 0 < lvTr t) t

theorem waits (c : Dev nD) : (levAts L lv : sProp 𝕄) ⊢ Pipeline.cellsWaits cfgs (dats m ρ) () 0 c :=
  Pipeline.cellsWaits_intro cfgs (dats m ρ) () 0 c fun w s t => by
    rcases t with ⟨_ | n, ht⟩
    · exact mayWait_low c _ (by fin_cases w <;> fin_cases s <;> decide)
    · show levAts L lv ⊢ MayWait _ _ _ 0
      rw [MayWait_zero]; iintro -; iempintro

/-! ## The run -/

/-- What the two arrays end with, as the pipeline computes it. -/
def finalA (c : Dev nD) (w : Fin cfg0.W) : Buf (Elt F) ((cfg0.win w).arr.view.loc (c : Thread nD τ)) := (dats m ρ 0 c).arrAt w cfg0.N

set_option maxRecDepth 8000 in
/-- For any float values, from any memory with zero counters, every weakly fair execution of the program on the eight
    devices ends, with the arrays at `finalA` and every semaphore at zero. -/
theorem run_arrays : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d D0) (howed₀ := fun _ => rfl) (howedN := fun _ => rfl)
    (L := L) (lv := lv) (hL := L_of_ne) (hwaits := waits m ρ)
    (G := dealt (inputs m ρ)) (G' := given (inputs m ρ)) (u₀ := u₀)
    (hu₀ := by
      unfold u₀
      iintro Hu
      ihave H := (ownU_pair _ _) $$ Hu
      icases H with ⟨HP, HX⟩
      imod (deal (inputs m ρ)) $$ HX with HG
      imodintro
      isplitl [HP] <;> iassumption)
    (hglob := glob (inputs m ρ))
    (hA := fun _ _ => rfl) (hpf := fun _ k => k.elim0)
    (X := start m ρ) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

/-- The input array is what it was. -/
theorem finalA_in (c : Dev nD) : finalA m ρ c (0 : Fin 2) = m ((c : Thread nD τ).loc main_arg0) :=
  (dats (F := F) m ρ 0 c).arrAt_in (0 : Fin 2) rfl _

/-- The one block of an array is the whole array: an index of the block is the same index of the array. -/
theorem emb_in (i : S2048x512.Idx) : (win0_0.blk (0 : Fin 1)).view.emb i = i := by
  funext a; apply Fin.ext
  refine (ValueKit.rect_emb_unit_val _ _ _ i a).trans ?_
  show 0 * _ + (i a).val = (i a).val
  omega
theorem emb_out (i : S4096x512.Idx) : (win0_1.blk (0 : Fin 1)).view.emb i = i := by
  funext a; apply Fin.ext
  refine (ValueKit.rect_emb_unit_val _ _ _ i a).trans ?_
  show 0 * _ + (i a).val = (i a).val
  omega

omit [FloatOps F] in
theorem inputs_eq : inputs m ρ = fun c : Dev nD => m ((c : Thread nD τ).loc main_arg0) := by
  funext c i
  show m ((c : Thread nD τ).loc main_arg0) ((win0_0.blk (0 : Fin 1)).view.emb i) = _
  rw [emb_in]

/-- The result array holds what the body left in its buffer. -/
theorem finalA_out (c : Dev nD) : finalA m ρ c (1 : Fin 2) = outAt (fun d : Dev nD => m ((d : Thread nD τ).loc main_arg0)) c := by
  refine (dats (F := F) m ρ 0 c).arrAt_eq_of_cover (1 : Fin 2) _ (fun t _ => ?_) fun i => ⟨t0_0, flush0_1 _, ?_⟩
  · obtain rfl := fin_N0 t
    funext y
    show outAt (inputs m ρ) c y = outAt (fun d : Dev nD => m ((d : Thread nD τ).loc main_arg0)) c ((win0_1.blk (0 : Fin 1)).view.emb y)
    rw [emb_out, inputs_eq]
  · exact Finset.mem_map.mpr ⟨i, Finset.mem_univ _, emb_out i⟩

/-- For any float values, from any memory with zero counters, every weakly fair execution of the program on the eight
    devices ends, with every device's result at `outAt` of the devices' inputs, its input as it was and every
    semaphore at zero. -/
theorem run_main : θ_run defs (onTc (τ := τ) (main (F := F))) ⟨m, fun _ => 0, ρ⟩
    (fun r => (∀ c : Dev nD, r.2.mem ((c : Thread nD τ).loc main_v1) = outAt (fun d : Dev nD => m ((d : Thread nD τ).loc main_arg0)) c
        ∧ r.2.mem ((c : Thread nD τ).loc main_arg0) = m ((c : Thread nD τ).loc main_arg0)) ∧ r.2.sem = fun _ => 0) :=
  (θ_run defs _ _).mono (fun r h => ⟨fun c => ⟨(h.1 c 1).trans (finalA_out m ρ c), (h.1 c 0).trans (finalA_in m ρ c)⟩, h.2⟩) (run_arrays m ρ)

end Cert.AllGather

end
-- ==== Proof.Value.lean ====
/-
# What every device's result is: the whole array

When each device's input is its half of one array `Y` (device `c` holds half `c % 2`), the result of every device is `Y`.
Row `r` of a result comes from row `r % 2048` of a device whose half is `r / 2048`.
-/
module

public import proofs.«01_k».proof.Proof.Rows
public import Idealize.ShloMosaic.Lib.Layout

@[expose] public section

noncomputable section

namespace Cert.AllGather

open Idealize.ShloMosaic Cert.KernelIdeal

variable {F : FTy → Type}

/-- Device `d`'s half of an array cut along its rows by the mesh's last axis. -/
def halfOf (Y : OutC F) (d : Dev nD) : InC F :=
  Layout.blockN ⟨2, ![2048, 512]⟩ ⟨2, ![4096, 512]⟩ (Layout.meshBlock [2, 2, 2] ![[2], []] d) Y

/-- A device's half is the parity of its number, and the columns are not cut. -/
theorem half_row (d : Dev nD) : ((Layout.meshBlock [2, 2, 2] ![[2], []] d) 0).val = d.val % 2 := by revert d; decide
theorem half_col (d : Dev nD) : ((Layout.meshBlock [2, 2, 2] ![[2], []] d) 1).val = 0 := by revert d; decide

/-- The device that a block of rows comes from holds the half that the block lies in. -/
theorem from_half (c : Dev nD) : ∀ b < 8, (from_ c b).val % 2 = b / 4 := by revert c; decide

/-- From the halves of `Y`, every device's result is `Y`. -/
theorem outAt_halves (Y : OutC F) (c : Dev nD) : outAt (halfOf Y) c = Y := by
  funext i
  unfold outAt halfOf
  rw [Layout.blockN_apply]
  congr 1
  have hr : (i 0).val < 4096 := (i 0).isLt
  have hd := half_row (from_ c ((i 0).val / 512))
  rw [from_half c _ (by omega)] at hd
  have hc := half_col (from_ c ((i 0).val / 512))
  funext b
  apply Fin.ext
  rw [Layout.TilesN.idx_val]
  match b with
  | ⟨0, _⟩ =>
    refine (congrArg (fun n => n * 2048 + (i 0).val % 2048) hd).trans ?_
    show _ = (i 0).val
    omega
  | ⟨1, _⟩ =>
    refine (congrArg (fun n => n * 512 + (i 1).val) hc).trans ?_
    show 0 * 512 + (i 1).val = (i 1).val
    omega

end Cert.AllGather

end
-- ==== Proof.Reference.lean ====
/-
# The reference's run

The reference returns its argument: it runs no operation, so memory ends as it began. It declares no semaphore.
-/
module

public import proofs.«01_k».proof.Proof.Gen.ReferenceIdeal
public import Idealize.ShloMosaic.Lib.StableHlo.RunHlo

@[expose] public section

noncomputable section

namespace Cert.AllGather.Ref

open Idealize.ShloMosaic Idealize.SL.Sem Cert.ReferenceIdeal

variable {F : FTy → Type} [FloatOps F]

/-- The reference has no semaphore, so nothing distinguishes one reading of its counters from another. -/
theorem sem_all (f g : GSem nD τ sig → ℤ) : f = g := by
  funext ⟨_, s⟩
  rcases s with s | s <;> exact s.elim0

/-- The reference ends, its argument as it was and every counter at zero. -/
theorem run_main (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0))
        ∧ r.2.sem = fun _ => 0) :=
  θ_run_mono (StableHlo.run_seq (by decide) (by decide) defs main (fun _ => []) (fun _ => rfl) (fun _ => trivial) m ρ)
    fun _ h => ⟨fun c => h c main_arg0, sem_all _ _⟩

end Cert.AllGather.Ref

end
-- ==== Proof.lean ====
/-
# The certificate

One run of the kernel (`Cert.AllGather.run_main`, Proof/Launch.lean), stated for any float values, gives both of its
frames and its value. The value at the reals is the whole array on every device (`outAt_halves`, Proof/Value.lean), which
is what the reference returns (Proof/Reference.lean).

The modules, each building on those before:
- Mesh: the devices' coordinates, who copies to whom, which rows;
- Rows: what the result finally holds, by rows;
- Hold: a range of rows held as an assertion, split and joined;
- Protocol: the semaphores' schedule, what each unit hands over, the order of waits;
- Steps: one lemma for each kind of operation;
- Body: the body at a symbolic device;
- Ghost: what the devices are dealt at the launch;
- Launch: the run;
- Value, Reference: the mathematics of the value, and the reference's run.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Value
public import proofs.«01_k».proof.Proof.Reference

@[expose] public section

noncomputable section

namespace Cert.Proof

open Idealize.ShloMosaic Idealize.SL.Sem

/-- The two printings of the kernel have the same bodies, -/
theorem bodies_same : Cert.Kernel.defs₀ (F := Bits) = Cert.KernelIdeal.defs₀ := by
  funext p l a
  match p, l, a with
  | .tc, 0, (_, _) => rfl
  | .scScalar _, _, _ => rfl
  | .scVector _ _, _, _ => rfl

/-- and so the same table of bodies and calls. -/
theorem defs_same : Cert.Kernel.defs (F := Bits) = Cert.KernelIdeal.defs :=
  congrArg (Pipeline.defs Cert.KernelIdeal.pcfgs) bodies_same

/-- The kernel over machine words terminates without fault, its argument unchanged and every counter at zero: the one
    run at the word values. -/
theorem frame_kernel : Cert.quiescent_Kernel := by
  intro m ρ _
  rw [defs_same]
  exact (θ_run Cert.KernelIdeal.defs _ _).mono (fun _ h => ⟨fun c => (h.1 c).2, h.2⟩) (AllGather.run_main (F := Bits) m ρ)

/-- The kernel over the reals terminates without fault, its argument unchanged and every counter at zero. -/
theorem frame_ideal : Cert.quiescent_KernelIdeal := fun m ρ _ =>
  (θ_run Cert.KernelIdeal.defs _ _).mono (fun _ h => ⟨fun c => (h.1 c).2, h.2⟩) (AllGather.run_main (F := Ideal) m ρ)

/-- The reference terminates without fault, its argument unchanged and every counter at zero. -/
theorem frame_reference : Cert.quiescent_ReferenceIdeal := fun m ρ _ => AllGather.Ref.run_main (F := Ideal) m ρ

/-- From each device's half of an array, every device's result is the whole array, which the reference returns. -/
theorem value : Cert.algebraic_KernelIdeal_ReferenceIdeal := by
  intro m ρ m' ρ' _ hargs
  refine ⟨m' (((0 : Dev Cert.ReferenceIdeal.nD).tc : Thread Cert.ReferenceIdeal.nD Cert.ReferenceIdeal.τ).loc Cert.ReferenceIdeal.main_arg0),
    (θ_run Cert.KernelIdeal.defs _ _).mono (fun _ h c => ⟨(h.1 c).1.trans ?_, (h.1 c).2⟩) (AllGather.run_main (F := Ideal) m ρ),
    (θ_run Cert.ReferenceIdeal.defs _ _).mono (fun _ h => ⟨h.1 0, h.1 0⟩) (AllGather.Ref.run_main (F := Ideal) m' ρ')⟩
  exact (congrArg (fun X => AllGather.outAt X c) (funext hargs)).trans (AllGather.outAt_halves _ c)

theorem claim : Cert.Claim :=
  ⟨Cert.Kernel.Gen.facts, Cert.KernelIdeal.Gen.facts, Cert.ReferenceIdeal.Gen.facts,
    frame_kernel, frame_ideal, frame_reference, trivial, value⟩

end Cert.Proof

end
